-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S8 : Shape := ⟨1, ![8]⟩
abbrev S7 : Shape := ⟨1, ![7]⟩
abbrev S1x512x2048 : Shape := ⟨3, ![1, 512, 2048]⟩
abbrev S1 : Shape := ⟨1, ![1]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S1x2048, .f32⟩
  | .local _ .vmem, ⟨1, _⟩ => ⟨S8192x2048, .bf16⟩
  | .local _ .vmem, ⟨2, _⟩ => ⟨S512x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32_146 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let c512_i32 : BitVec 32 := 512#32
  let v162 : BitVec 32 := Scalar.muli v40 c512_i32
  let c0_i32_147 : BitVec 32 := 0#32
  ![0, v162.toNat, 0]
def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let c512_i32_148 : BitVec 32 := 512#32
  let v165 : BitVec 32 := Scalar.muli v40 c512_i32_148
  let c0_i32_149 : BitVec 32 := 0#32
  ![v165.toNat, 0]
def k0_dev1 (d0 : Dev nD) : Nat :=
  let c0_i32_152 : BitVec 32 := 0#32
  let c1_i32_145 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v161 : BitVec 32 := Scalar.subi c1_i32_145 v2
  let c16_i32_151 : BitVec 32 := 16#32
  let v168 : BitVec 32 := Scalar.muli v161 c16_i32_151
  let v169 : BitVec 32 := Scalar.addi c0_i32_152 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153 : BitVec 32 := 4#32
  let v170 : BitVec 32 := Scalar.muli v5 c4_i32_153
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v172 : BitVec 32 := Scalar.muli v8 c1_i32_154
  let v173 : BitVec 32 := Scalar.addi v171 v172
  v173.toNat
def k0_dev2 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v174 : BitVec 32 := Scalar.muli v2 c16_i32_156
  let v175 : BitVec 32 := Scalar.addi c0_i32_157 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_158 : BitVec 32 := 4#32
  let v176 : BitVec 32 := Scalar.muli v130 c4_i32_158
  let v177 : BitVec 32 := Scalar.addi v175 v176
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_159 : BitVec 32 := 1#32
  let v178 : BitVec 32 := Scalar.muli v160 c1_i32_159
  let v179 : BitVec 32 := Scalar.addi v177 v178
  v179.toNat
def k0_dev3 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v180 : BitVec 32 := Scalar.muli v2 c16_i32_161
  let v181 : BitVec 32 := Scalar.addi c0_i32_162 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_163 : BitVec 32 := 4#32
  let v182 : BitVec 32 := Scalar.muli v70 c4_i32_163
  let v183 : BitVec 32 := Scalar.addi v181 v182
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_164 : BitVec 32 := 1#32
  let v184 : BitVec 32 := Scalar.muli v100 c1_i32_164
  let v185 : BitVec 32 := Scalar.addi v183 v184
  v185.toNat
def k0_dev4 (d0 : Dev nD) : Nat :=
  let c0_i32_172 : BitVec 32 := 0#32
  let c1_i32_145 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v161 : BitVec 32 := Scalar.subi c1_i32_145 v2
  let c16_i32_171 : BitVec 32 := 16#32
  let v193 : BitVec 32 := Scalar.muli v161 c16_i32_171
  let v194 : BitVec 32 := Scalar.addi c0_i32_172 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v195 : BitVec 32 := Scalar.muli v5 c4_i32_173
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v197 : BitVec 32 := Scalar.muli v8 c1_i32_174
  let v198 : BitVec 32 := Scalar.addi v196 v197
  v198.toNat
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let c512_i32_184 : BitVec 32 := 512#32
  let v210 : BitVec 32 := Scalar.muli v40 c512_i32_184
  let v211 : Index := Scalar.indexCast v210
  let c0_185 : Index := 0#32
  ![v211.toNat, 0]
def k0_off4 (d0 : Dev nD) (c0_i32_186 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let v215 : BitVec 32 := Scalar.subi v40 c0_i32_186
  let c16_i32_187 : BitVec 32 := 16#32
  let c0_i32_188 : BitVec 32 := 0#32
  let v216 : BitVec 1 := Scalar.cmpi .eq c16_i32_187 c0_i32_188
  let c1_i32_189 : BitVec 32 := 1#32
  let v217 : BitVec 32 := Scalar.select v216 c1_i32_189 c16_i32_187
  let v218 : BitVec 32 := Scalar.remsi v215 v217
  let c0_i32_191 : BitVec 32 := 0#32
  let v220 : BitVec 1 := Scalar.cmpi .slt v218 c0_i32_191
  let c0_i32_192 : BitVec 32 := 0#32
  let v221 : BitVec 1 := Scalar.cmpi .slt v217 c0_i32_192
  let v222 : BitVec 1 := Scalar.xori v220 v221
  let c0_i32_190 : BitVec 32 := 0#32
  let v219 : BitVec 1 := Scalar.cmpi .ne v218 c0_i32_190
  let v223 : BitVec 1 := Scalar.andi v222 v219
  let v224 : BitVec 32 := Scalar.addi v218 v217
  let v225 : BitVec 32 := Scalar.select v223 v224 v218
  let c512_i32_194 : BitVec 32 := 512#32
  let v227 : BitVec 32 := Scalar.muli v225 c512_i32_194
  let c0_i32_201 : BitVec 32 := 0#32
  ![v227.toNat, 0]
def k0_dev5 (d0 : Dev nD) : Nat :=
  let c0_i32_198 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_197 : BitVec 32 := 16#32
  let v228 : BitVec 32 := Scalar.muli v2 c16_i32_197
  let v229 : BitVec 32 := Scalar.addi c0_i32_198 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_199 : BitVec 32 := 4#32
  let v230 : BitVec 32 := Scalar.muli v70 c4_i32_199
  let v231 : BitVec 32 := Scalar.addi v229 v230
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_200 : BitVec 32 := 1#32
  let v232 : BitVec 32 := Scalar.muli v100 c1_i32_200
  let v233 : BitVec 32 := Scalar.addi v231 v232
  v233.toNat
def k0_off5 (d0 : Dev nD) (c0_i32_203 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let v240 : BitVec 32 := Scalar.addi v40 c0_i32_203
  let c16_i32_204 : BitVec 32 := 16#32
  let c0_i32_205 : BitVec 32 := 0#32
  let v241 : BitVec 1 := Scalar.cmpi .eq c16_i32_204 c0_i32_205
  let c1_i32_206 : BitVec 32 := 1#32
  let v242 : BitVec 32 := Scalar.select v241 c1_i32_206 c16_i32_204
  let v243 : BitVec 32 := Scalar.remsi v240 v242
  let c0_i32_208 : BitVec 32 := 0#32
  let v245 : BitVec 1 := Scalar.cmpi .slt v243 c0_i32_208
  let c0_i32_209 : BitVec 32 := 0#32
  let v246 : BitVec 1 := Scalar.cmpi .slt v242 c0_i32_209
  let v247 : BitVec 1 := Scalar.xori v245 v246
  let c0_i32_207 : BitVec 32 := 0#32
  let v244 : BitVec 1 := Scalar.cmpi .ne v243 c0_i32_207
  let v248 : BitVec 1 := Scalar.andi v247 v244
  let v249 : BitVec 32 := Scalar.addi v243 v242
  let v250 : BitVec 32 := Scalar.select v248 v249 v243
  let c512_i32_211 : BitVec 32 := 512#32
  let v252 : BitVec 32 := Scalar.muli v250 c512_i32_211
  let c0_i32_218 : BitVec 32 := 0#32
  ![v252.toNat, 0]
def k0_dev6 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v253 : BitVec 32 := Scalar.muli v2 c16_i32_214
  let v254 : BitVec 32 := Scalar.addi c0_i32_215 v253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_216 : BitVec 32 := 4#32
  let v255 : BitVec 32 := Scalar.muli v130 c4_i32_216
  let v256 : BitVec 32 := Scalar.addi v254 v255
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_217 : BitVec 32 := 1#32
  let v257 : BitVec 32 := Scalar.muli v160 c1_i32_217
  let v258 : BitVec 32 := Scalar.addi v256 v257
  v258.toNat
def k0_off6 (d0 : Dev nD) (c1_i32_249 : BitVec 32) (c0_i32_250 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let v313 : BitVec 32 := Scalar.subi v40 c1_i32_249
  let v314 : BitVec 32 := Scalar.subi v313 c0_i32_250
  let c16_i32_251 : BitVec 32 := 16#32
  let c0_i32_252 : BitVec 32 := 0#32
  let v315 : BitVec 1 := Scalar.cmpi .eq c16_i32_251 c0_i32_252
  let c1_i32_253 : BitVec 32 := 1#32
  let v316 : BitVec 32 := Scalar.select v315 c1_i32_253 c16_i32_251
  let v317 : BitVec 32 := Scalar.remsi v314 v316
  let c0_i32_255 : BitVec 32 := 0#32
  let v319 : BitVec 1 := Scalar.cmpi .slt v317 c0_i32_255
  let c0_i32_256 : BitVec 32 := 0#32
  let v320 : BitVec 1 := Scalar.cmpi .slt v316 c0_i32_256
  let v321 : BitVec 1 := Scalar.xori v319 v320
  let c0_i32_254 : BitVec 32 := 0#32
  let v318 : BitVec 1 := Scalar.cmpi .ne v317 c0_i32_254
  let v322 : BitVec 1 := Scalar.andi v321 v318
  let v323 : BitVec 32 := Scalar.addi v317 v316
  let v324 : BitVec 32 := Scalar.select v322 v323 v317
  let c512_i32_258 : BitVec 32 := 512#32
  let v326 : BitVec 32 := Scalar.muli v324 c512_i32_258
  let c0_i32_265 : BitVec 32 := 0#32
  ![v326.toNat, 0]
def k0_off6_at (r : Fin 15) : BitVec 32 × BitVec 32 :=
  if r.val < 7 then
    if r.val < 3 then
      if r.val < 1 then
        (1#32, 0#32)
      else
        if r.val < 2 then
          (2#32, 0#32)
        else
          (1#32, 1#32)
    else
      if r.val < 5 then
        if r.val < 4 then
          (2#32, 1#32)
        else
          (1#32, 2#32)
      else
        if r.val < 6 then
          (2#32, 2#32)
        else
          (1#32, 3#32)
  else
    if r.val < 11 then
      if r.val < 9 then
        if r.val < 8 then
          (2#32, 3#32)
        else
          (1#32, 4#32)
      else
        if r.val < 10 then
          (2#32, 4#32)
        else
          (1#32, 5#32)
    else
      if r.val < 13 then
        if r.val < 12 then
          (2#32, 5#32)
        else
          (1#32, 6#32)
      else
        if r.val < 14 then
          (2#32, 6#32)
        else
          (1#32, 7#32)
def k0_dev7 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v350 : BitVec 32 := Scalar.muli v2 c16_i32_278
  let v351 : BitVec 32 := Scalar.addi c0_i32_279 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_280 : BitVec 32 := 4#32
  let v352 : BitVec 32 := Scalar.muli v70 c4_i32_280
  let v353 : BitVec 32 := Scalar.addi v351 v352
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_281 : BitVec 32 := 1#32
  let v354 : BitVec 32 := Scalar.muli v100 c1_i32_281
  let v355 : BitVec 32 := Scalar.addi v353 v354
  v355.toNat
def k0_off7 (d0 : Dev nD) (c1_i32_284 : BitVec 32) (c0_i32_285 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let v362 : BitVec 32 := Scalar.addi v40 c1_i32_284
  let v363 : BitVec 32 := Scalar.addi v362 c0_i32_285
  let c16_i32_286 : BitVec 32 := 16#32
  let c0_i32_287 : BitVec 32 := 0#32
  let v364 : BitVec 1 := Scalar.cmpi .eq c16_i32_286 c0_i32_287
  let c1_i32_288 : BitVec 32 := 1#32
  let v365 : BitVec 32 := Scalar.select v364 c1_i32_288 c16_i32_286
  let v366 : BitVec 32 := Scalar.remsi v363 v365
  let c0_i32_290 : BitVec 32 := 0#32
  let v368 : BitVec 1 := Scalar.cmpi .slt v366 c0_i32_290
  let c0_i32_291 : BitVec 32 := 0#32
  let v369 : BitVec 1 := Scalar.cmpi .slt v365 c0_i32_291
  let v370 : BitVec 1 := Scalar.xori v368 v369
  let c0_i32_289 : BitVec 32 := 0#32
  let v367 : BitVec 1 := Scalar.cmpi .ne v366 c0_i32_289
  let v371 : BitVec 1 := Scalar.andi v370 v367
  let v372 : BitVec 32 := Scalar.addi v366 v365
  let v373 : BitVec 32 := Scalar.select v371 v372 v366
  let c512_i32_293 : BitVec 32 := 512#32
  let v375 : BitVec 32 := Scalar.muli v373 c512_i32_293
  let c0_i32_300 : BitVec 32 := 0#32
  ![v375.toNat, 0]
def k0_off7_at (r : Fin 13) : BitVec 32 × BitVec 32 :=
  if r.val < 6 then
    if r.val < 3 then
      if r.val < 1 then
        (1#32, 0#32)
      else
        if r.val < 2 then
          (2#32, 0#32)
        else
          (1#32, 1#32)
    else
      if r.val < 4 then
        (2#32, 1#32)
      else
        if r.val < 5 then
          (1#32, 2#32)
        else
          (2#32, 2#32)
  else
    if r.val < 9 then
      if r.val < 7 then
        (1#32, 3#32)
      else
        if r.val < 8 then
          (2#32, 3#32)
        else
          (1#32, 4#32)
    else
      if r.val < 11 then
        if r.val < 10 then
          (2#32, 4#32)
        else
          (1#32, 5#32)
      else
        if r.val < 12 then
          (2#32, 5#32)
        else
          (1#32, 6#32)
def k0_dev8 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v399 : BitVec 32 := Scalar.muli v2 c16_i32_313
  let v400 : BitVec 32 := Scalar.addi c0_i32_314 v399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_315 : BitVec 32 := 4#32
  let v401 : BitVec 32 := Scalar.muli v130 c4_i32_315
  let v402 : BitVec 32 := Scalar.addi v400 v401
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_316 : BitVec 32 := 1#32
  let v403 : BitVec 32 := Scalar.muli v160 c1_i32_316
  let v404 : BitVec 32 := Scalar.addi v402 v403
  v404.toNat
def k0_off8 (d0 : Dev nD) (c0_i32_320 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let c1_i32_319 : BitVec 32 := 1#32
  let v411 : BitVec 32 := Scalar.subi v40 c1_i32_319
  let v412 : BitVec 32 := Scalar.subi v411 c0_i32_320
  let c16_i32_321 : BitVec 32 := 16#32
  let c0_i32_322 : BitVec 32 := 0#32
  let v413 : BitVec 1 := Scalar.cmpi .eq c16_i32_321 c0_i32_322
  let c1_i32_323 : BitVec 32 := 1#32
  let v414 : BitVec 32 := Scalar.select v413 c1_i32_323 c16_i32_321
  let v415 : BitVec 32 := Scalar.remsi v412 v414
  let c0_i32_325 : BitVec 32 := 0#32
  let v417 : BitVec 1 := Scalar.cmpi .slt v415 c0_i32_325
  let c0_i32_326 : BitVec 32 := 0#32
  let v418 : BitVec 1 := Scalar.cmpi .slt v414 c0_i32_326
  let v419 : BitVec 1 := Scalar.xori v417 v418
  let c0_i32_324 : BitVec 32 := 0#32
  let v416 : BitVec 1 := Scalar.cmpi .ne v415 c0_i32_324
  let v420 : BitVec 1 := Scalar.andi v419 v416
  let v421 : BitVec 32 := Scalar.addi v415 v414
  let v422 : BitVec 32 := Scalar.select v420 v421 v415
  let c512_i32_328 : BitVec 32 := 512#32
  let v424 : BitVec 32 := Scalar.muli v422 c512_i32_328
  let v425 : Index := Scalar.indexCast v424
  let c0_329 : Index := 0#32
  ![v425.toNat, 0]
def k0_off9 (d0 : Dev nD) (c0_i32_353 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c10_i32_20 : BitVec 32 := 10#32
  let c14_i32_17 : BitVec 32 := 14#32
  let v37 : BitVec 1 := Scalar.cmpi .eq v10 c14_i32_17
  let c11_i32_18 : BitVec 32 := 11#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32 : BitVec 32 := 11#32
  let v31 : BitVec 1 := Scalar.cmpi .eq v10 c11_i32
  let c9_i32_14 : BitVec 32 := 9#32
  let c10_i32 : BitVec 32 := 10#32
  let v29 : BitVec 1 := Scalar.cmpi .eq v10 c10_i32
  let c8_i32_13 : BitVec 32 := 8#32
  let c9_i32 : BitVec 32 := 9#32
  let v27 : BitVec 1 := Scalar.cmpi .eq v10 c9_i32
  let c7_i32_12 : BitVec 32 := 7#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_11 : BitVec 32 := 4#32
  let c6_i32_9 : BitVec 32 := 6#32
  let v21 : BitVec 1 := Scalar.cmpi .eq v10 c6_i32_9
  let c5_i32_10 : BitVec 32 := 5#32
  let c5_i32 : BitVec 32 := 5#32
  let v19 : BitVec 1 := Scalar.cmpi .eq v10 c5_i32
  let c6_i32 : BitVec 32 := 6#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c6_i32 v18
  let v22 : BitVec 32 := Scalar.select v21 c5_i32_10 v20
  let v24 : BitVec 32 := Scalar.select v23 c4_i32_11 v22
  let v26 : BitVec 32 := Scalar.select v25 c14_i32 v24
  let v28 : BitVec 32 := Scalar.select v27 c7_i32_12 v26
  let v30 : BitVec 32 := Scalar.select v29 c8_i32_13 v28
  let v32 : BitVec 32 := Scalar.select v31 c9_i32_14 v30
  let v34 : BitVec 32 := Scalar.select v33 c13_i32 v32
  let v36 : BitVec 32 := Scalar.select v35 c12_i32_16 v34
  let v38 : BitVec 32 := Scalar.select v37 c11_i32_18 v36
  let v40 : BitVec 32 := Scalar.select v39 c10_i32_20 v38
  let c1_i32_352 : BitVec 32 := 1#32
  let v464 : BitVec 32 := Scalar.addi v40 c1_i32_352
  let v465 : BitVec 32 := Scalar.addi v464 c0_i32_353
  let c16_i32_354 : BitVec 32 := 16#32
  let c0_i32_355 : BitVec 32 := 0#32
  let v466 : BitVec 1 := Scalar.cmpi .eq c16_i32_354 c0_i32_355
  let c1_i32_356 : BitVec 32 := 1#32
  let v467 : BitVec 32 := Scalar.select v466 c1_i32_356 c16_i32_354
  let v468 : BitVec 32 := Scalar.remsi v465 v467
  let c0_i32_358 : BitVec 32 := 0#32
  let v470 : BitVec 1 := Scalar.cmpi .slt v468 c0_i32_358
  let c0_i32_359 : BitVec 32 := 0#32
  let v471 : BitVec 1 := Scalar.cmpi .slt v467 c0_i32_359
  let v472 : BitVec 1 := Scalar.xori v470 v471
  let c0_i32_357 : BitVec 32 := 0#32
  let v469 : BitVec 1 := Scalar.cmpi .ne v468 c0_i32_357
  let v473 : BitVec 1 := Scalar.andi v472 v469
  let v474 : BitVec 32 := Scalar.addi v468 v467
  let v475 : BitVec 32 := Scalar.select v473 v474 v468
  let c512_i32_361 : BitVec 32 := 512#32
  let v477 : BitVec 32 := Scalar.muli v475 c512_i32_361
  let v478 : Index := Scalar.indexCast v477
  let c0_362 : Index := 0#32
  ![v478.toNat, 0]
def k0_dev9 (d0 : Dev nD) : Nat :=
  let c0_i32_414 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_413 : BitVec 32 := 16#32
  let v553 : BitVec 32 := Scalar.muli v2 c16_i32_413
  let v554 : BitVec 32 := Scalar.addi c0_i32_414 v553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_415 : BitVec 32 := 4#32
  let v555 : BitVec 32 := Scalar.muli v70 c4_i32_415
  let v556 : BitVec 32 := Scalar.addi v554 v555
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_416 : BitVec 32 := 1#32
  let v557 : BitVec 32 := Scalar.muli v100 c1_i32_416
  let v558 : BitVec 32 := Scalar.addi v556 v557
  v558.toNat
def k0_dev10 (d0 : Dev nD) : Nat :=
  let c0_i32_449 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_448 : BitVec 32 := 16#32
  let v602 : BitVec 32 := Scalar.muli v2 c16_i32_448
  let v603 : BitVec 32 := Scalar.addi c0_i32_449 v602
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_450 : BitVec 32 := 4#32
  let v604 : BitVec 32 := Scalar.muli v130 c4_i32_450
  let v605 : BitVec 32 := Scalar.addi v603 v604
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_451 : BitVec 32 := 1#32
  let v606 : BitVec 32 := Scalar.muli v160 c1_i32_451
  let v607 : BitVec 32 := Scalar.addi v605 v606
  v607.toNat
def k0_dev11 (d0 : Dev nD) : Nat :=
  let c0_i32_550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_549 : BitVec 32 := 16#32
  let v757 : BitVec 32 := Scalar.muli v2 c16_i32_549
  let v758 : BitVec 32 := Scalar.addi c0_i32_550 v757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_551 : BitVec 32 := 4#32
  let v759 : BitVec 32 := Scalar.muli v70 c4_i32_551
  let v760 : BitVec 32 := Scalar.addi v758 v759
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_552 : BitVec 32 := 1#32
  let v761 : BitVec 32 := Scalar.muli v100 c1_i32_552
  let v762 : BitVec 32 := Scalar.addi v760 v761
  v762.toNat
def k0_dev12 (d0 : Dev nD) : Nat :=
  let c0_i32_585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_584 : BitVec 32 := 16#32
  let v806 : BitVec 32 := Scalar.muli v2 c16_i32_584
  let v807 : BitVec 32 := Scalar.addi c0_i32_585 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_586 : BitVec 32 := 4#32
  let v808 : BitVec 32 := Scalar.muli v130 c4_i32_586
  let v809 : BitVec 32 := Scalar.addi v807 v808
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_587 : BitVec 32 := 1#32
  let v810 : BitVec 32 := Scalar.muli v160 c1_i32_587
  let v811 : BitVec 32 := Scalar.addi v809 v810
  v811.toNat
def k0_dev13 (d0 : Dev nD) : Nat :=
  let c0_i32_686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_685 : BitVec 32 := 16#32
  let v961 : BitVec 32 := Scalar.muli v2 c16_i32_685
  let v962 : BitVec 32 := Scalar.addi c0_i32_686 v961
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_687 : BitVec 32 := 4#32
  let v963 : BitVec 32 := Scalar.muli v70 c4_i32_687
  let v964 : BitVec 32 := Scalar.addi v962 v963
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_688 : BitVec 32 := 1#32
  let v965 : BitVec 32 := Scalar.muli v100 c1_i32_688
  let v966 : BitVec 32 := Scalar.addi v964 v965
  v966.toNat
def k0_dev14 (d0 : Dev nD) : Nat :=
  let c0_i32_721 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_720 : BitVec 32 := 16#32
  let v1010 : BitVec 32 := Scalar.muli v2 c16_i32_720
  let v1011 : BitVec 32 := Scalar.addi c0_i32_721 v1010
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_722 : BitVec 32 := 4#32
  let v1012 : BitVec 32 := Scalar.muli v130 c4_i32_722
  let v1013 : BitVec 32 := Scalar.addi v1011 v1012
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_723 : BitVec 32 := 1#32
  let v1014 : BitVec 32 := Scalar.muli v160 c1_i32_723
  let v1015 : BitVec 32 := Scalar.addi v1013 v1014
  v1015.toNat
def k0_dev15 (d0 : Dev nD) : Nat :=
  let c0_i32_822 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_821 : BitVec 32 := 16#32
  let v1165 : BitVec 32 := Scalar.muli v2 c16_i32_821
  let v1166 : BitVec 32 := Scalar.addi c0_i32_822 v1165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_823 : BitVec 32 := 4#32
  let v1167 : BitVec 32 := Scalar.muli v70 c4_i32_823
  let v1168 : BitVec 32 := Scalar.addi v1166 v1167
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_824 : BitVec 32 := 1#32
  let v1169 : BitVec 32 := Scalar.muli v100 c1_i32_824
  let v1170 : BitVec 32 := Scalar.addi v1168 v1169
  v1170.toNat
def k0_dev16 (d0 : Dev nD) : Nat :=
  let c0_i32_857 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_856 : BitVec 32 := 16#32
  let v1214 : BitVec 32 := Scalar.muli v2 c16_i32_856
  let v1215 : BitVec 32 := Scalar.addi c0_i32_857 v1214
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_858 : BitVec 32 := 4#32
  let v1216 : BitVec 32 := Scalar.muli v130 c4_i32_858
  let v1217 : BitVec 32 := Scalar.addi v1215 v1216
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_859 : BitVec 32 := 1#32
  let v1218 : BitVec 32 := Scalar.muli v160 c1_i32_859
  let v1219 : BitVec 32 := Scalar.addi v1217 v1218
  v1219.toNat
def k0_dev17 (d0 : Dev nD) : Nat :=
  let c0_i32_958 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_957 : BitVec 32 := 16#32
  let v1369 : BitVec 32 := Scalar.muli v2 c16_i32_957
  let v1370 : BitVec 32 := Scalar.addi c0_i32_958 v1369
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_959 : BitVec 32 := 4#32
  let v1371 : BitVec 32 := Scalar.muli v70 c4_i32_959
  let v1372 : BitVec 32 := Scalar.addi v1370 v1371
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_960 : BitVec 32 := 1#32
  let v1373 : BitVec 32 := Scalar.muli v100 c1_i32_960
  let v1374 : BitVec 32 := Scalar.addi v1372 v1373
  v1374.toNat
def k0_dev18 (d0 : Dev nD) : Nat :=
  let c0_i32_993 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_992 : BitVec 32 := 16#32
  let v1418 : BitVec 32 := Scalar.muli v2 c16_i32_992
  let v1419 : BitVec 32 := Scalar.addi c0_i32_993 v1418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_112 : BitVec 32 := 15#32
  let v129 : BitVec 1 := Scalar.cmpi .eq v10 c15_i32_112
  let c2_i32_113 : BitVec 32 := 2#32
  let c14_i32_110 : BitVec 32 := 14#32
  let v127 : BitVec 1 := Scalar.cmpi .eq v10 c14_i32_110
  let c3_i32_111 : BitVec 32 := 3#32
  let c13_i32_108 : BitVec 32 := 13#32
  let v125 : BitVec 1 := Scalar.cmpi .eq v10 c13_i32_108
  let c3_i32_109 : BitVec 32 := 3#32
  let c12_i32_106 : BitVec 32 := 12#32
  let v123 : BitVec 1 := Scalar.cmpi .eq v10 c12_i32_106
  let c3_i32_107 : BitVec 32 := 3#32
  let c11_i32_104 : BitVec 32 := 11#32
  let v121 : BitVec 1 := Scalar.cmpi .eq v10 c11_i32_104
  let c2_i32_105 : BitVec 32 := 2#32
  let c10_i32_102 : BitVec 32 := 10#32
  let v119 : BitVec 1 := Scalar.cmpi .eq v10 c10_i32_102
  let c2_i32_103 : BitVec 32 := 2#32
  let c9_i32_100 : BitVec 32 := 9#32
  let v117 : BitVec 1 := Scalar.cmpi .eq v10 c9_i32_100
  let c1_i32_101 : BitVec 32 := 1#32
  let c8_i32_98 : BitVec 32 := 8#32
  let v115 : BitVec 1 := Scalar.cmpi .eq v10 c8_i32_98
  let c3_i32_99 : BitVec 32 := 3#32
  let c7_i32_96 : BitVec 32 := 7#32
  let v113 : BitVec 1 := Scalar.cmpi .eq v10 c7_i32_96
  let c0_i32_97 : BitVec 32 := 0#32
  let c6_i32_94 : BitVec 32 := 6#32
  let v111 : BitVec 1 := Scalar.cmpi .eq v10 c6_i32_94
  let c1_i32_95 : BitVec 32 := 1#32
  let c5_i32_92 : BitVec 32 := 5#32
  let v109 : BitVec 1 := Scalar.cmpi .eq v10 c5_i32_92
  let c1_i32_93 : BitVec 32 := 1#32
  let c4_i32_90 : BitVec 32 := 4#32
  let v107 : BitVec 1 := Scalar.cmpi .eq v10 c4_i32_90
  let c2_i32_91 : BitVec 32 := 2#32
  let c3_i32_88 : BitVec 32 := 3#32
  let v105 : BitVec 1 := Scalar.cmpi .eq v10 c3_i32_88
  let c0_i32_89 : BitVec 32 := 0#32
  let c2_i32_86 : BitVec 32 := 2#32
  let v103 : BitVec 1 := Scalar.cmpi .eq v10 c2_i32_86
  let c0_i32_87 : BitVec 32 := 0#32
  let c1_i32_83 : BitVec 32 := 1#32
  let v101 : BitVec 1 := Scalar.cmpi .eq v10 c1_i32_83
  let c0_i32_84 : BitVec 32 := 0#32
  let c1_i32_85 : BitVec 32 := 1#32
  let v102 : BitVec 32 := Scalar.select v101 c0_i32_84 c1_i32_85
  let v104 : BitVec 32 := Scalar.select v103 c0_i32_87 v102
  let v106 : BitVec 32 := Scalar.select v105 c0_i32_89 v104
  let v108 : BitVec 32 := Scalar.select v107 c2_i32_91 v106
  let v110 : BitVec 32 := Scalar.select v109 c1_i32_93 v108
  let v112 : BitVec 32 := Scalar.select v111 c1_i32_95 v110
  let v114 : BitVec 32 := Scalar.select v113 c0_i32_97 v112
  let v116 : BitVec 32 := Scalar.select v115 c3_i32_99 v114
  let v118 : BitVec 32 := Scalar.select v117 c1_i32_101 v116
  let v120 : BitVec 32 := Scalar.select v119 c2_i32_103 v118
  let v122 : BitVec 32 := Scalar.select v121 c2_i32_105 v120
  let v124 : BitVec 32 := Scalar.select v123 c3_i32_107 v122
  let v126 : BitVec 32 := Scalar.select v125 c3_i32_109 v124
  let v128 : BitVec 32 := Scalar.select v127 c3_i32_111 v126
  let v130 : BitVec 32 := Scalar.select v129 c2_i32_113 v128
  let c4_i32_994 : BitVec 32 := 4#32
  let v1420 : BitVec 32 := Scalar.muli v130 c4_i32_994
  let v1421 : BitVec 32 := Scalar.addi v1419 v1420
  let c15_i32_143 : BitVec 32 := 15#32
  let v159 : BitVec 1 := Scalar.cmpi .eq v10 c15_i32_143
  let c3_i32_144 : BitVec 32 := 3#32
  let c14_i32_141 : BitVec 32 := 14#32
  let v157 : BitVec 1 := Scalar.cmpi .eq v10 c14_i32_141
  let c3_i32_142 : BitVec 32 := 3#32
  let c13_i32_139 : BitVec 32 := 13#32
  let v155 : BitVec 1 := Scalar.cmpi .eq v10 c13_i32_139
  let c2_i32_140 : BitVec 32 := 2#32
  let c12_i32_137 : BitVec 32 := 12#32
  let v153 : BitVec 1 := Scalar.cmpi .eq v10 c12_i32_137
  let c1_i32_138 : BitVec 32 := 1#32
  let c11_i32_135 : BitVec 32 := 11#32
  let v151 : BitVec 1 := Scalar.cmpi .eq v10 c11_i32_135
  let c2_i32_136 : BitVec 32 := 2#32
  let c10_i32_133 : BitVec 32 := 10#32
  let v149 : BitVec 1 := Scalar.cmpi .eq v10 c10_i32_133
  let c1_i32_134 : BitVec 32 := 1#32
  let c9_i32_131 : BitVec 32 := 9#32
  let v147 : BitVec 1 := Scalar.cmpi .eq v10 c9_i32_131
  let c1_i32_132 : BitVec 32 := 1#32
  let c8_i32_129 : BitVec 32 := 8#32
  let v145 : BitVec 1 := Scalar.cmpi .eq v10 c8_i32_129
  let c0_i32_130 : BitVec 32 := 0#32
  let c7_i32_127 : BitVec 32 := 7#32
  let v143 : BitVec 1 := Scalar.cmpi .eq v10 c7_i32_127
  let c3_i32_128 : BitVec 32 := 3#32
  let c6_i32_125 : BitVec 32 := 6#32
  let v141 : BitVec 1 := Scalar.cmpi .eq v10 c6_i32_125
  let c3_i32_126 : BitVec 32 := 3#32
  let c5_i32_123 : BitVec 32 := 5#32
  let v139 : BitVec 1 := Scalar.cmpi .eq v10 c5_i32_123
  let c2_i32_124 : BitVec 32 := 2#32
  let c4_i32_121 : BitVec 32 := 4#32
  let v137 : BitVec 1 := Scalar.cmpi .eq v10 c4_i32_121
  let c0_i32_122 : BitVec 32 := 0#32
  let c3_i32_119 : BitVec 32 := 3#32
  let v135 : BitVec 1 := Scalar.cmpi .eq v10 c3_i32_119
  let c2_i32_120 : BitVec 32 := 2#32
  let c2_i32_117 : BitVec 32 := 2#32
  let v133 : BitVec 1 := Scalar.cmpi .eq v10 c2_i32_117
  let c1_i32_118 : BitVec 32 := 1#32
  let c1_i32_114 : BitVec 32 := 1#32
  let v131 : BitVec 1 := Scalar.cmpi .eq v10 c1_i32_114
  let c0_i32_115 : BitVec 32 := 0#32
  let c0_i32_116 : BitVec 32 := 0#32
  let v132 : BitVec 32 := Scalar.select v131 c0_i32_115 c0_i32_116
  let v134 : BitVec 32 := Scalar.select v133 c1_i32_118 v132
  let v136 : BitVec 32 := Scalar.select v135 c2_i32_120 v134
  let v138 : BitVec 32 := Scalar.select v137 c0_i32_122 v136
  let v140 : BitVec 32 := Scalar.select v139 c2_i32_124 v138
  let v142 : BitVec 32 := Scalar.select v141 c3_i32_126 v140
  let v144 : BitVec 32 := Scalar.select v143 c3_i32_128 v142
  let v146 : BitVec 32 := Scalar.select v145 c0_i32_130 v144
  let v148 : BitVec 32 := Scalar.select v147 c1_i32_132 v146
  let v150 : BitVec 32 := Scalar.select v149 c1_i32_134 v148
  let v152 : BitVec 32 := Scalar.select v151 c2_i32_136 v150
  let v154 : BitVec 32 := Scalar.select v153 c1_i32_138 v152
  let v156 : BitVec 32 := Scalar.select v155 c2_i32_140 v154
  let v158 : BitVec 32 := Scalar.select v157 c3_i32_142 v156
  let v160 : BitVec 32 := Scalar.select v159 c3_i32_144 v158
  let c1_i32_995 : BitVec 32 := 1#32
  let v1422 : BitVec 32 := Scalar.muli v160 c1_i32_995
  let v1423 : BitVec 32 := Scalar.addi v1421 v1422
  v1423.toNat
def k0_dev19 (d0 : Dev nD) : Nat :=
  let c0_i32_1094 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1093 : BitVec 32 := 16#32
  let v1573 : BitVec 32 := Scalar.muli v2 c16_i32_1093
  let v1574 : BitVec 32 := Scalar.addi c0_i32_1094 v1573
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_50 : BitVec 32 := 15#32
  let v69 : BitVec 1 := Scalar.cmpi .eq v10 c15_i32_50
  let c3_i32_51 : BitVec 32 := 3#32
  let c14_i32_48 : BitVec 32 := 14#32
  let v67 : BitVec 1 := Scalar.cmpi .eq v10 c14_i32_48
  let c3_i32_49 : BitVec 32 := 3#32
  let c13_i32_46 : BitVec 32 := 13#32
  let v65 : BitVec 1 := Scalar.cmpi .eq v10 c13_i32_46
  let c3_i32_47 : BitVec 32 := 3#32
  let c12_i32_44 : BitVec 32 := 12#32
  let v63 : BitVec 1 := Scalar.cmpi .eq v10 c12_i32_44
  let c2_i32_45 : BitVec 32 := 2#32
  let c11_i32_42 : BitVec 32 := 11#32
  let v61 : BitVec 1 := Scalar.cmpi .eq v10 c11_i32_42
  let c3_i32_43 : BitVec 32 := 3#32
  let c10_i32_40 : BitVec 32 := 10#32
  let v59 : BitVec 1 := Scalar.cmpi .eq v10 c10_i32_40
  let c2_i32_41 : BitVec 32 := 2#32
  let c9_i32_38 : BitVec 32 := 9#32
  let v57 : BitVec 1 := Scalar.cmpi .eq v10 c9_i32_38
  let c2_i32_39 : BitVec 32 := 2#32
  let c8_i32_36 : BitVec 32 := 8#32
  let v55 : BitVec 1 := Scalar.cmpi .eq v10 c8_i32_36
  let c1_i32_37 : BitVec 32 := 1#32
  let c7_i32_34 : BitVec 32 := 7#32
  let v53 : BitVec 1 := Scalar.cmpi .eq v10 c7_i32_34
  let c1_i32_35 : BitVec 32 := 1#32
  let c6_i32_32 : BitVec 32 := 6#32
  let v51 : BitVec 1 := Scalar.cmpi .eq v10 c6_i32_32
  let c1_i32_33 : BitVec 32 := 1#32
  let c5_i32_30 : BitVec 32 := 5#32
  let v49 : BitVec 1 := Scalar.cmpi .eq v10 c5_i32_30
  let c2_i32_31 : BitVec 32 := 2#32
  let c4_i32_28 : BitVec 32 := 4#32
  let v47 : BitVec 1 := Scalar.cmpi .eq v10 c4_i32_28
  let c0_i32_29 : BitVec 32 := 0#32
  let c3_i32_26 : BitVec 32 := 3#32
  let v45 : BitVec 1 := Scalar.cmpi .eq v10 c3_i32_26
  let c1_i32_27 : BitVec 32 := 1#32
  let c2_i32_24 : BitVec 32 := 2#32
  let v43 : BitVec 1 := Scalar.cmpi .eq v10 c2_i32_24
  let c0_i32_25 : BitVec 32 := 0#32
  let c1_i32_21 : BitVec 32 := 1#32
  let v41 : BitVec 1 := Scalar.cmpi .eq v10 c1_i32_21
  let c0_i32_22 : BitVec 32 := 0#32
  let c0_i32_23 : BitVec 32 := 0#32
  let v42 : BitVec 32 := Scalar.select v41 c0_i32_22 c0_i32_23
  let v44 : BitVec 32 := Scalar.select v43 c0_i32_25 v42
  let v46 : BitVec 32 := Scalar.select v45 c1_i32_27 v44
  let v48 : BitVec 32 := Scalar.select v47 c0_i32_29 v46
  let v50 : BitVec 32 := Scalar.select v49 c2_i32_31 v48
  let v52 : BitVec 32 := Scalar.select v51 c1_i32_33 v50
  let v54 : BitVec 32 := Scalar.select v53 c1_i32_35 v52
  let v56 : BitVec 32 := Scalar.select v55 c1_i32_37 v54
  let v58 : BitVec 32 := Scalar.select v57 c2_i32_39 v56
  let v60 : BitVec 32 := Scalar.select v59 c2_i32_41 v58
  let v62 : BitVec 32 := Scalar.select v61 c3_i32_43 v60
  let v64 : BitVec 32 := Scalar.select v63 c2_i32_45 v62
  let v66 : BitVec 32 := Scalar.select v65 c3_i32_47 v64
  let v68 : BitVec 32 := Scalar.select v67 c3_i32_49 v66
  let v70 : BitVec 32 := Scalar.select v69 c3_i32_51 v68
  let c4_i32_1095 : BitVec 32 := 4#32
  let v1575 : BitVec 32 := Scalar.muli v70 c4_i32_1095
  let v1576 : BitVec 32 := Scalar.addi v1574 v1575
  let c15_i32_81 : BitVec 32 := 15#32
  let v99 : BitVec 1 := Scalar.cmpi .eq v10 c15_i32_81
  let c2_i32_82 : BitVec 32 := 2#32
  let c14_i32_79 : BitVec 32 := 14#32
  let v97 : BitVec 1 := Scalar.cmpi .eq v10 c14_i32_79
  let c1_i32_80 : BitVec 32 := 1#32
  let c13_i32_77 : BitVec 32 := 13#32
  let v95 : BitVec 1 := Scalar.cmpi .eq v10 c13_i32_77
  let c0_i32_78 : BitVec 32 := 0#32
  let c12_i32_75 : BitVec 32 := 12#32
  let v93 : BitVec 1 := Scalar.cmpi .eq v10 c12_i32_75
  let c0_i32_76 : BitVec 32 := 0#32
  let c11_i32_73 : BitVec 32 := 11#32
  let v91 : BitVec 1 := Scalar.cmpi .eq v10 c11_i32_73
  let c3_i32_74 : BitVec 32 := 3#32
  let c10_i32_71 : BitVec 32 := 10#32
  let v89 : BitVec 1 := Scalar.cmpi .eq v10 c10_i32_71
  let c3_i32_72 : BitVec 32 := 3#32
  let c9_i32_69 : BitVec 32 := 9#32
  let v87 : BitVec 1 := Scalar.cmpi .eq v10 c9_i32_69
  let c2_i32_70 : BitVec 32 := 2#32
  let c8_i32_67 : BitVec 32 := 8#32
  let v85 : BitVec 1 := Scalar.cmpi .eq v10 c8_i32_67
  let c0_i32_68 : BitVec 32 := 0#32
  let c7_i32_65 : BitVec 32 := 7#32
  let v83 : BitVec 1 := Scalar.cmpi .eq v10 c7_i32_65
  let c2_i32_66 : BitVec 32 := 2#32
  let c6_i32_63 : BitVec 32 := 6#32
  let v81 : BitVec 1 := Scalar.cmpi .eq v10 c6_i32_63
  let c1_i32_64 : BitVec 32 := 1#32
  let c5_i32_61 : BitVec 32 := 5#32
  let v79 : BitVec 1 := Scalar.cmpi .eq v10 c5_i32_61
  let c1_i32_62 : BitVec 32 := 1#32
  let c4_i32_59 : BitVec 32 := 4#32
  let v77 : BitVec 1 := Scalar.cmpi .eq v10 c4_i32_59
  let c0_i32_60 : BitVec 32 := 0#32
  let c3_i32_57 : BitVec 32 := 3#32
  let v75 : BitVec 1 := Scalar.cmpi .eq v10 c3_i32_57
  let c3_i32_58 : BitVec 32 := 3#32
  let c2_i32_55 : BitVec 32 := 2#32
  let v73 : BitVec 1 := Scalar.cmpi .eq v10 c2_i32_55
  let c3_i32_56 : BitVec 32 := 3#32
  let c1_i32_52 : BitVec 32 := 1#32
  let v71 : BitVec 1 := Scalar.cmpi .eq v10 c1_i32_52
  let c2_i32_53 : BitVec 32 := 2#32
  let c1_i32_54 : BitVec 32 := 1#32
  let v72 : BitVec 32 := Scalar.select v71 c2_i32_53 c1_i32_54
  let v74 : BitVec 32 := Scalar.select v73 c3_i32_56 v72
  let v76 : BitVec 32 := Scalar.select v75 c3_i32_58 v74
  let v78 : BitVec 32 := Scalar.select v77 c0_i32_60 v76
  let v80 : BitVec 32 := Scalar.select v79 c1_i32_62 v78
  let v82 : BitVec 32 := Scalar.select v81 c1_i32_64 v80
  let v84 : BitVec 32 := Scalar.select v83 c2_i32_66 v82
  let v86 : BitVec 32 := Scalar.select v85 c0_i32_68 v84
  let v88 : BitVec 32 := Scalar.select v87 c2_i32_70 v86
  let v90 : BitVec 32 := Scalar.select v89 c3_i32_72 v88
  let v92 : BitVec 32 := Scalar.select v91 c3_i32_74 v90
  let v94 : BitVec 32 := Scalar.select v93 c0_i32_76 v92
  let v96 : BitVec 32 := Scalar.select v95 c0_i32_78 v94
  let v98 : BitVec 32 := Scalar.select v97 c1_i32_80 v96
  let v100 : BitVec 32 := Scalar.select v99 c2_i32_82 v98
  let c1_i32_1096 : BitVec 32 := 1#32
  let v1577 : BitVec 32 := Scalar.muli v100 c1_i32_1096
  let v1578 : BitVec 32 := Scalar.addi v1576 v1577
  v1578.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Geom.lean ====
/-
  Where things are: a device's place in the ring of its plane, its neighbours, the row chunks of the
  8192-row buffers, and the closed forms of the kernel's offsets and device ids in those terms.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.Rms

open Idealize.ShloMosaic Idealize.ShloMosaic.TcCoe Idealize.SL Idealize.SL.Sem
open Cert.KernelIdeal Cert.KernelIdeal.Gen

/-! ## The ring -/

/-- The place in the ring of the device that is number `n` within its plane. -/
def posTab : Fin 16 → Fin 16 := ![0, 1, 2, 3, 15, 6, 5, 4, 14, 7, 8, 9, 13, 12, 11, 10]

/-- The device, within its plane, at each place of the ring. -/
def devTab : Fin 16 → Fin 16 := ![0, 1, 2, 3, 7, 6, 5, 9, 10, 11, 15, 14, 13, 12, 8, 4]

/-- Number `n` modulo sixteen: a place of the ring, and a chunk of 512 rows. -/
def ch (n : ℕ) : Fin 16 := ⟨n % 16, Nat.mod_lt _ (by decide)⟩

/-- A device's place in its ring. -/
def pos (c : Dev nD) : ℕ := (posTab (ch c.val)).val

/-- The device at place `j` of `c`'s ring. -/
def own (c : Dev nD) (j : Fin 16) : Dev nD :=
  ⟨16 * (c.val / 16) + (devTab j).val, by
    have h := c.isLt
    have h2 := (devTab j).isLt
    simp only [nD] at h ⊢; omega⟩

/-- The neighbours of a device: in the other plane, and before and after it in its ring. -/
def nbP (c : Dev nD) : Dev nD := ⟨k0_dev1 c, k0_dev1_lt c⟩
def nbL (c : Dev nD) : Dev nD := ⟨k0_dev2 c, k0_dev2_lt c⟩
def nbR (c : Dev nD) : Dev nD := ⟨k0_dev3 c, k0_dev3_lt c⟩

theorem nbP_nbP : ∀ c, nbP (nbP c) = c := by decide +kernel
theorem nbL_nbR : ∀ c, nbL (nbR c) = c := by decide +kernel
theorem nbR_nbL : ∀ c, nbR (nbL c) = c := by decide +kernel
theorem pos_lt (c : Dev nD) : pos c < 16 := (posTab _).isLt
theorem pos_nbR : ∀ c, pos (nbR c) = (pos c + 1) % 16 := by decide +kernel
theorem pos_nbL : ∀ c, pos (nbL c) = (pos c + 15) % 16 := by decide +kernel
theorem own_pos : ∀ c, own c (ch (pos c)) = c := by decide +kernel
theorem own_nbR : ∀ c j, own (nbR c) j = own c j := by decide +kernel
theorem own_nbL : ∀ c j, own (nbL c) j = own c j := by decide +kernel
theorem own_nbP : ∀ c j, nbP (own c j) = own (nbP c) j := by decide +kernel
theorem pos_own : ∀ c j, ch (pos (own c j)) = j := by decide +kernel

/-! ## The chunks in the order they travel -/

/-- The chunk that is `h` places before the device's own: what arrives from before it in hop `h - 1`. -/
def cr (c : Dev nD) (h : ℕ) : Fin 16 := ch (pos c + 16 - h)
/-- The chunk that is `h` places after the device's own: what arrives from after it in hop `h - 1`. -/
def cl (c : Dev nD) (h : ℕ) : Fin 16 := ch (pos c + h)

theorem cr_zero (c : Dev nD) : cr c 0 = ch (pos c) := by
  unfold cr ch; exact Fin.ext (by simp)
theorem cl_zero (c : Dev nD) : cl c 0 = ch (pos c) := rfl
theorem cr_nbR (c : Dev nD) (h : ℕ) (hh : h < 16) : cr (nbR c) (h + 1) = cr c h := by
  unfold cr ch; rw [pos_nbR]; have := pos_lt c; exact Fin.ext (by show _ % 16 = _ % 16; omega)
theorem cl_nbL (c : Dev nD) (h : ℕ) : cl (nbL c) (h + 1) = cl c h := by
  unfold cl ch; rw [pos_nbL]; have := pos_lt c; exact Fin.ext (by show _ % 16 = _ % 16; omega)
theorem cr_nbL (c : Dev nD) (h : ℕ) (hh : h < 16) : cr (nbL c) h = cr c (h + 1) := by
  have := cr_nbR (nbL c) h hh; rw [nbR_nbL] at this; exact this.symm
theorem cl_nbR (c : Dev nD) (h : ℕ) : cl (nbR c) h = cl c (h + 1) := by
  have := cl_nbL (nbR c) h; rw [nbL_nbR] at this; exact this.symm

/-! ## The offsets -/

/-- The first row of a chunk, and column zero. -/
def chOff (j : Fin 16) : Fin 2 → ℕ := ![512 * j.val, 0]

/-- An offset of a 512-row window that is a chunk's. -/
def Off : Type := {f : Fin 2 → ℕ // ∃ j : Fin 16, f = chOff j}

def chO (j : Fin 16) : Off := ⟨chOff j, j, rfl⟩

theorem off_eq {f : Fin 2 → ℕ} {j : Fin 16} (h : f = chOff j) (h' : ∃ j : Fin 16, f = chOff j) : (⟨f, h'⟩ : Off) = chO j :=
  Subtype.ext h

theorem chOff_inb : ∀ (j : Fin 16) (a : Fin 2), chOff j a + S512x2048.size a ≤ S8192x2048.size a := by decide +kernel

theorem Off.inb (o : Off) : ∀ a, o.1 a + S512x2048.size a ≤ S8192x2048.size a := by
  obtain ⟨f, j, rfl⟩ := o; exact chOff_inb j

/-- The rectangle of 512 rows at an offset. -/
abbrev Off.rect (o : Off) : Rect S8192x2048 := Rect.unit (s := S8192x2048) o.1 S512x2048.size o.inb

theorem chOff_words : ∀ j : Fin 16, (Rect.unit (s := S8192x2048) (chOff j) S512x2048.size (chOff_inb j)).WholeWords (EltTy.packing .bf16) := by
  decide +kernel

theorem chOff_packed : ∀ j : Fin 16, (Rect.unit (s := S8192x2048) (chOff j) S512x2048.size (chOff_inb j)).PackedRows (EltTy.packing .bf16) := by
  decide +kernel

theorem Off.words (o : Off) : o.rect.WholeWords (EltTy.packing .bf16) := by
  obtain ⟨f, j, rfl⟩ := o; exact chOff_words j

theorem Off.packed (o : Off) : o.rect.PackedRows (EltTy.packing .bf16) := by
  obtain ⟨f, j, rfl⟩ := o; exact chOff_packed j

theorem off2_eq : ∀ c, k0_off2 c = chOff (ch (pos c)) := by decide +kernel
theorem off3_eq : ∀ c, k0_off3 c = chOff (ch (pos c)) := by decide +kernel
theorem off4_eq : ∀ c (h : Fin 8), k0_off4 c (BitVec.ofNat 32 h.val) = chOff (cr c h.val) := by decide +kernel
theorem off5_eq : ∀ c (h : Fin 7), k0_off5 c (BitVec.ofNat 32 h.val) = chOff (cl c h.val) := by decide +kernel
theorem off6_eq1 : ∀ c (h : Fin 8), k0_off6 c 1#32 (BitVec.ofNat 32 h.val) = chOff (cr c (h.val + 1)) := by decide +kernel
theorem off6_eq2 : ∀ c (h : Fin 8), k0_off6 c 2#32 (BitVec.ofNat 32 h.val) = chOff (cr c (h.val + 2)) := by decide +kernel
theorem off7_eq1 : ∀ c (h : Fin 8), k0_off7 c 1#32 (BitVec.ofNat 32 h.val) = chOff (cl c (h.val + 1)) := by decide +kernel
theorem off7_eq2 : ∀ c (h : Fin 8), k0_off7 c 2#32 (BitVec.ofNat 32 h.val) = chOff (cl c (h.val + 2)) := by decide +kernel
theorem off8_eq : ∀ c (h : Fin 8), k0_off8 c (BitVec.ofNat 32 h.val) = chOff (cr c (h.val + 1)) := by decide +kernel
theorem off9_eq : ∀ c (h : Fin 7), k0_off9 c (BitVec.ofNat 32 h.val) = chOff (cl c (h.val + 1)) := by decide +kernel

def o2 (c : Dev nD) : Off := ⟨k0_off2 c, _, off2_eq c⟩
def o3 (c : Dev nD) : Off := ⟨k0_off3 c, _, off3_eq c⟩
def o4 (c : Dev nD) (h : Fin 8) : Off := ⟨k0_off4 c (BitVec.ofNat 32 h.val), _, off4_eq c h⟩
def o5 (c : Dev nD) (h : Fin 7) : Off := ⟨k0_off5 c (BitVec.ofNat 32 h.val), _, off5_eq c h⟩
def o61 (c : Dev nD) (h : Fin 8) : Off := ⟨k0_off6 c 1#32 (BitVec.ofNat 32 h.val), _, off6_eq1 c h⟩
def o62 (c : Dev nD) (h : Fin 8) : Off := ⟨k0_off6 c 2#32 (BitVec.ofNat 32 h.val), _, off6_eq2 c h⟩
def o71 (c : Dev nD) (h : Fin 8) : Off := ⟨k0_off7 c 1#32 (BitVec.ofNat 32 h.val), _, off7_eq1 c h⟩
def o72 (c : Dev nD) (h : Fin 8) : Off := ⟨k0_off7 c 2#32 (BitVec.ofNat 32 h.val), _, off7_eq2 c h⟩
def o8 (c : Dev nD) (h : Fin 8) : Off := ⟨k0_off8 c (BitVec.ofNat 32 h.val), _, off8_eq c h⟩
def o9 (c : Dev nD) (h : Fin 7) : Off := ⟨k0_off9 c (BitVec.ofNat 32 h.val), _, off9_eq c h⟩

theorem o2_eq (c : Dev nD) : o2 c = chO (ch (pos c)) := off_eq (off2_eq c) _
theorem o3_eq (c : Dev nD) : o3 c = chO (ch (pos c)) := off_eq (off3_eq c) _
theorem o4_eq (c : Dev nD) (h : Fin 8) : o4 c h = chO (cr c h.val) := off_eq (off4_eq c h) _
theorem o5_eq (c : Dev nD) (h : Fin 7) : o5 c h = chO (cl c h.val) := off_eq (off5_eq c h) _
theorem o61_eq (c : Dev nD) (h : Fin 8) : o61 c h = chO (cr c (h.val + 1)) := off_eq (off6_eq1 c h) _
theorem o62_eq (c : Dev nD) (h : Fin 8) : o62 c h = chO (cr c (h.val + 2)) := off_eq (off6_eq2 c h) _
theorem o71_eq (c : Dev nD) (h : Fin 8) : o71 c h = chO (cl c (h.val + 1)) := off_eq (off7_eq1 c h) _
theorem o72_eq (c : Dev nD) (h : Fin 8) : o72 c h = chO (cl c (h.val + 2)) := off_eq (off7_eq2 c h) _
theorem o8_eq (c : Dev nD) (h : Fin 8) : o8 c h = chO (cr c (h.val + 1)) := off_eq (off8_eq c h) _
theorem o9_eq (c : Dev nD) (h : Fin 7) : o9 c h = chO (cl c (h.val + 1)) := off_eq (off9_eq c h) _

/-- The window of the partial sums that the device reads: its own chunk. -/
theorem off1_eq : ∀ c, k0_off1 c = ![0, 512 * (ch (pos c)).val, 0] := by decide +kernel

/-! ## The receivers -/

def devR (c : Dev nD) : Fin 8 → Dev nD :=
  ![⟨k0_dev5 c, k0_dev5_lt c⟩, ⟨k0_dev7 c, k0_dev7_lt c⟩, ⟨k0_dev9 c, k0_dev9_lt c⟩, ⟨k0_dev11 c, k0_dev11_lt c⟩,
    ⟨k0_dev13 c, k0_dev13_lt c⟩, ⟨k0_dev15 c, k0_dev15_lt c⟩, ⟨k0_dev17 c, k0_dev17_lt c⟩, ⟨k0_dev19 c, k0_dev19_lt c⟩]
def devL (c : Dev nD) : Fin 7 → Dev nD :=
  ![⟨k0_dev6 c, k0_dev6_lt c⟩, ⟨k0_dev8 c, k0_dev8_lt c⟩, ⟨k0_dev10 c, k0_dev10_lt c⟩, ⟨k0_dev12 c, k0_dev12_lt c⟩,
    ⟨k0_dev14 c, k0_dev14_lt c⟩, ⟨k0_dev16 c, k0_dev16_lt c⟩, ⟨k0_dev18 c, k0_dev18_lt c⟩]

theorem devR_eq : ∀ c h, devR c h = nbR c := by decide +kernel
theorem devL_eq : ∀ c h, devL c h = nbL c := by decide +kernel
theorem dev4_eq : ∀ c, (⟨k0_dev4 c, k0_dev4_lt c⟩ : Dev nD) = nbP c := by decide +kernel

end Cert.Proof.Rms
-- ==== Proof.Prog.lean ====
/-
  The kernel's body as a short program: its first part, eight hops of one text, and the last waits. The windows
  and the receivers stay the printed ones; the equation with the printed body is by unfolding.
-/
module

public import proofs.«01_k».proof.Proof.Geom
public import Idealize.ShloMosaic.Lib.Pipeline.Regions

@[expose] public section

noncomputable section

namespace Cert.Proof.Rms

open Idealize.ShloMosaic Idealize.ShloMosaic.TcCoe Idealize.SL Idealize.SL.Sem
open Cert.KernelIdeal Cert.KernelIdeal.Gen

variable {F : FTy → Type} [FloatOps F]

/-! ## Buffers and semaphores -/

abbrev partM : Memref sig .tc .hbm S1x8192x2048 .f32 := Memref.whole main_arg0
abbrev residM : Memref sig .tc .hbm S8192x2048 .f32 := Memref.whole main_arg1
abbrev outM : Memref sig .tc .hbm S8192x2048 .f32 := Memref.whole main_v2
abbrev commM : Memref sig .tc .vmem S8192x2048 .bf16 := Memref.whole cc0_scratch0
abbrev mycM : Memref sig .tc .vmem S512x2048 .f32 := Memref.whole cc0_scratch1
abbrev mybfM : Memref sig .tc .vmem S512x2048 .bf16 := Memref.whole cc0_scratch2
abbrev prtM : Memref sig .tc .vmem S512x2048 .bf16 := Memref.whole cc0_scratch3
abbrev rbaM : Memref sig .tc .vmem S512x2048 .f32 := Memref.whole cc0_scratch4
abbrev rbbM : Memref sig .tc .vmem S512x2048 .f32 := Memref.whole cc0_scratch5
abbrev obaM : Memref sig .tc .vmem S512x2048 .f32 := Memref.whole cc0_scratch6
abbrev obbM : Memref sig .tc .vmem S512x2048 .f32 := Memref.whole cc0_scratch7
abbrev gamM : Memref sig .tc .vmem S1x2048 .f32 := Memref.whole cc0_stg0_0

abbrev semMy : DmaSem sig := ⟨1, by decide⟩
abbrev semXs : DmaSem sig := ⟨2, by decide⟩
abbrev semXr : DmaSem sig := ⟨3, by decide⟩
abbrev semSr (h : Fin 8) : DmaSem sig := ⟨4 + h.val, by have := h.isLt; show 4 + h.val < 38; omega⟩
abbrev semRr (h : Fin 8) : DmaSem sig := ⟨12 + h.val, by have := h.isLt; show 12 + h.val < 38; omega⟩
abbrev semSl (h : Fin 7) : DmaSem sig := ⟨20 + h.val, by have := h.isLt; show 20 + h.val < 38; omega⟩
abbrev semRl (h : Fin 7) : DmaSem sig := ⟨27 + h.val, by have := h.isLt; show 27 + h.val < 38; omega⟩
abbrev semRa : DmaSem sig := ⟨34, by decide⟩
abbrev semRb : DmaSem sig := ⟨35, by decide⟩
abbrev semOa : DmaSem sig := ⟨36, by decide⟩
abbrev semOb : DmaSem sig := ⟨37, by decide⟩

/-- The windows of 512 rows of the three large buffers, and the device's own chunk of the partial sums. -/
abbrev commW (o : Off) : Memref sig .tc .vmem S512x2048 .bf16 := commM.slice o.rect (fun _ => rfl)
abbrev residW (o : Off) : Memref sig .tc .hbm S512x2048 .f32 := residM.slice o.rect (fun _ => rfl)
abbrev outW (o : Off) : Memref sig .tc .hbm S512x2048 .f32 := outM.slice o.rect (fun _ => rfl)
abbrev partW (c : Dev nD) : Memref sig .tc .hbm S512x2048 .f32 :=
  (partM.slice (Rect.unit (s := S1x8192x2048) (k0_off1 c) S1x512x2048.size (k0_off1_inb c)) (fun _ => rfl)).squeeze S512x2048
    squeezes_S1x512x2048_S512x2048

theorem commW_exact (o : Off) : (commW o).view.WordExact := (Memref.isWhole_whole cc0_scratch0).wordExact_slice rfl _ o.words

/-- All of a 512-row buffer, and all of gamma's, as rectangles of themselves. -/
abbrev r512 : Rect S512x2048 := Rect.unit (s := S512x2048) ![0, 0] S512x2048.size inb_S512x2048_S512x2048_0_0
abbrev r1 : Rect S1x2048 := Rect.unit (s := S1x2048) ![0, 0] S1x2048.size inb_S1x2048_S1x2048_0_0

abbrev P (α : Type) := Prog (TpuEff nD τ sig (Elt F) Λ₀ .tc) α

/-! ## The operations -/

/-- Waits for, and starts, the copies of the local kind: into a buffer from main memory, and back. -/
def getC (src : Memref sig .tc .hbm S512x2048 .f32) (dst : Memref sig .tc .vmem S512x2048 .f32) (hd : dst.IsWhole) (s : DmaSem sig) : P (F := F) PUnit :=
  Prog.lift (.enqueueDma src (.here dst) (.dma s) (View.wordExact_bits rfl) hd.wordExact ⟨Or.inl rfl, trivial⟩)
def gotC (src : Memref sig .tc .hbm S512x2048 .f32) (dst : Memref sig .tc .vmem S512x2048 .f32) (hd : dst.IsWhole) (s : DmaSem sig) : P (F := F) PUnit :=
  Prog.lift (.waitDma2 s src dst (View.wordExact_bits rfl) hd.wordExact)
def putC (src : Memref sig .tc .vmem S512x2048 .f32) (hd : src.IsWhole) (dst : Memref sig .tc .hbm S512x2048 .f32) (s : DmaSem sig) : P (F := F) PUnit :=
  Prog.lift (.enqueueDma src (.here dst) (.dma s) hd.wordExact (View.wordExact_bits rfl) ⟨Or.inl rfl, trivial⟩)
def hasPut (src : Memref sig .tc .vmem S512x2048 .f32) (hd : src.IsWhole) (dst : Memref sig .tc .hbm S512x2048 .f32) (s : DmaSem sig) : P (F := F) PUnit :=
  Prog.lift (.waitDma2 s src dst hd.wordExact (View.wordExact_bits rfl))

/-- A load of all of a buffer, a load of gamma, a store of all of a buffer. -/
def loadF {e : EltTy} (m : Memref sig .tc .vmem S512x2048 e) : P (F := F) (Vec F S512x2048 e) :=
  Prog.lift (.load m r512.toLoadRect (View.loadsAt_vmem h_S512x2048))
def loadG (m : Memref sig .tc .vmem S1x2048 .f32) : P (F := F) (Vec F S1x2048 .f32) :=
  Prog.lift (.load m r1.toLoadRect (View.loadsAt_vmem h_S1x2048))
def loadW (o : Off) : P (F := F) (Vec F S512x2048 .bf16) :=
  Prog.lift (.load commM o.rect.toLoadRect (View.loadsAt_vmem h_S512x2048))
def storeF (m : Memref sig .tc .vmem S512x2048 .f32) (w : FVec F S512x2048 .f32) : P (F := F) PUnit :=
  Prog.lift (.store m r512 w Finset.univ (View.stores_vmem_bits_univ h_S512x2048 rfl) (.inl rfl))

/-- Sending a chunk, and the waits for a send and for an arrival (the same operation). -/
def sendW (o : Off) (d : Dev nD) (sS sR : DmaSem sig) : P (F := F) PUnit :=
  Prog.lift (.enqueueDma (commW o) (.remote (Dev.tc d) (commW o) (.dma sS)) (.dma sR) (commW_exact o) (commW_exact o) ⟨⟨rfl, Or.inl rfl⟩, trivial⟩)
def waitW (o : Off) (s : DmaSem sig) : P (F := F) PUnit :=
  Prog.lift (.waitDma2 s (commW o) (commW o) (commW_exact o) (commW_exact o))

/-! ## The normalised chunk -/

/-- One chunk of the result: the chunk's sum, the residual's chunk and gamma, normalised by the root mean square. -/
def normF (a : Vec F S512x2048 .bf16) (r : Vec F S512x2048 .f32) (g : Vec F S1x2048 .f32) : FVec F S512x2048 .f32 := k0_pay6 a r g

/-- The last steps of a chunk: load what the kernel reads, store the normalised chunk, start its way out. -/
def finish (a : Vec F S512x2048 .bf16) (rb ob : Memref sig .tc .vmem S512x2048 .f32) (ho : ob.IsWhole) (o : Off) (s : DmaSem sig) : P (F := F) PUnit := do
  let r ← loadF rb
  let g ← loadG gamM
  let _ ← loadF ob
  storeF ob (normF a r g)
  putC ob ho (outW o) s

/-! ## The parts -/

abbrev wh {κ : Kind} (b : Ref sig κ) : (Memref.whole b).IsWhole := Memref.isWhole_whole b

/-- The exchange with the other plane. -/
def exch (c : Dev nD) : P (F := F) PUnit := do
  Prog.lift (.enqueueDma mybfM (.remote (Dev.tc (⟨k0_dev4 c, k0_dev4_lt c⟩ : Dev nD)) prtM (.dma semXs)) (.dma semXr) (wh _).wordExact (wh _).wordExact ⟨⟨rfl, Or.inl rfl⟩, trivial⟩)
  Prog.lift (.waitDma2 semXs prtM mybfM (wh _).wordExact (wh _).wordExact)
  Prog.lift (.waitDma2 semXr mybfM prtM (wh _).wordExact (wh _).wordExact)

/-- Own chunk's copies, then the barrier with the three neighbours. -/
def begin1 (c : Dev nD) : P (F := F) PUnit := do
  Prog.lift (.enqueueDma (partW c) (.here mycM) (.dma semMy) ((View.wordExact_bits rfl).reshape _ _) (wh _).wordExact ⟨Or.inl rfl, trivial⟩)
  getC (residW (o2 c)) rbaM (wh _) semRa
  semSignalWord (⟨k0_dev1 c, k0_dev1_lt c⟩ : Dev nD) barrier0 1#32
  semSignalWord (⟨k0_dev2 c, k0_dev2_lt c⟩ : Dev nD) barrier0 1#32
  semSignalWord (⟨k0_dev3 c, k0_dev3_lt c⟩ : Dev nD) barrier0 1#32
  semWaitWord barrier0 3#32

/-- The sum of the two planes' chunks, kept and sent both ways. -/
def begin2 (c : Dev nD) : P (F := F) (FVec F S512x2048 .f32) := do
  Prog.lift (.waitDma2 semMy (partW c) mycM ((View.wordExact_bits rfl).reshape _ _) (wh _).wordExact)
  let v ← loadF mycM
  let _ ← loadF mybfM
  Prog.lift (.store mybfM r512 (k0_pay1 v) Finset.univ
    (View.stores_vmem h_S512x2048 ((wh cc0_scratch2).storeExact_slice rfl _ packedbf16_S512x2048_S512x2048_0_0) (fun _ => rfl)) (.inl rfl))
  exch c
  let v205 ← loadF mycM
  let v206 ← loadF prtM
  let _ ← loadW (o3 c)
  Prog.lift (.store commM (o3 c).rect (k0_pay3 v205 v206) Finset.univ
    (View.stores_vmem h_S512x2048 ((wh cc0_scratch0).storeExact_slice rfl _ (o3 c).packed) (fun _ => rfl)) (.inl rfl))
  sendW (o4 c 0) (devR c 0) (semSr 0) (semRr 0)
  sendW (o5 c 0) (devL c 0) (semSl 0) (semRl 0)
  pure (k0_pay2 v205 v206)

/-- Own chunk of the result, and the first two residual chunks asked for. -/
def begin3 (c : Dev nD) (s : FVec F S512x2048 .f32) : P (F := F) PUnit := do
  gotC (residW (o2 c)) rbaM (wh _) semRa
  let r ← loadF rbaM
  let g ← loadG gamM
  let _ ← loadF obaM
  storeF obaM (k0_pay5 (k0_pay4 s r) g)
  putC obaM (wh _) (outW (o2 c)) semOa
  getC (residW (o4 c 1)) rbaM (wh _) semRa
  getC (residW (o5 c 1)) rbbM (wh _) semRb

/-- Hop `h`'s two arrivals, each sent on. -/
def recvR (c : Dev nD) (h : Fin 8) : P (F := F) PUnit := do
  waitW (o61 c h) (semRr h)
  if hh : h.val < 7 then
    sendW (o4 c ⟨h.val + 1, by omega⟩) (devR c ⟨h.val + 1, by omega⟩) (semSr ⟨h.val + 1, by omega⟩) (semRr ⟨h.val + 1, by omega⟩)
def recvL (c : Dev nD) (h : Fin 7) : P (F := F) PUnit := do
  waitW (o71 c h.castSucc) (semRl h)
  if hh : h.val < 6 then
    sendW (o5 c ⟨h.val + 1, by omega⟩) (devL c ⟨h.val + 1, by omega⟩) (semSl ⟨h.val + 1, by omega⟩) (semRl ⟨h.val + 1, by omega⟩)

/-- The residual window waited for in hop `h`, on either side, as the kernel names it. -/
def resR (c : Dev nD) : Fin 8 → Off := ![o4 c 1, o62 c 0, o62 c 1, o62 c 2, o62 c 3, o62 c 4, o62 c 5, o62 c 6]
def resL (c : Dev nD) : Fin 7 → Off := ![o5 c 1, o72 c 0, o72 c 1, o72 c 2, o72 c 3, o72 c 4, o72 c 5]
/-- The result window on its way out when hop `h` starts. -/
def prvR (c : Dev nD) : Fin 8 → Off := ![o2 c, o61 c 0, o61 c 1, o61 c 2, o61 c 3, o61 c 4, o61 c 5, o61 c 6]
def prvL (c : Dev nD) : Fin 7 → Off := ![o2 c, o71 c 0, o71 c 1, o71 c 2, o71 c 3, o71 c 4, o71 c 5]

theorem resR_eq (c : Dev nD) : ∀ h : Fin 8, resR c h = chO (cr c (h.val + 1))
  | 0 => o4_eq c 1 | 1 => o62_eq c 0 | 2 => o62_eq c 1 | 3 => o62_eq c 2
  | 4 => o62_eq c 3 | 5 => o62_eq c 4 | 6 => o62_eq c 5 | 7 => o62_eq c 6
theorem resL_eq (c : Dev nD) : ∀ h : Fin 7, resL c h = chO (cl c (h.val + 1))
  | 0 => o5_eq c 1 | 1 => o72_eq c 0 | 2 => o72_eq c 1 | 3 => o72_eq c 2
  | 4 => o72_eq c 3 | 5 => o72_eq c 4 | 6 => o72_eq c 5
theorem prvR_eq (c : Dev nD) : ∀ h : Fin 8, prvR c h = chO (cr c h.val)
  | 0 => (o2_eq c).trans (congrArg chO (cr_zero c).symm) | 1 => o61_eq c 0 | 2 => o61_eq c 1 | 3 => o61_eq c 2
  | 4 => o61_eq c 3 | 5 => o61_eq c 4 | 6 => o61_eq c 5 | 7 => o61_eq c 6
theorem prvL_eq (c : Dev nD) : ∀ h : Fin 7, prvL c h = chO (cl c h.val)
  | 0 => (o2_eq c).trans (congrArg chO (cl_zero c).symm) | 1 => o71_eq c 0 | 2 => o71_eq c 1 | 3 => o71_eq c 2
  | 4 => o71_eq c 3 | 5 => o71_eq c 4 | 6 => o71_eq c 5

/-- Hop `h`'s two chunks of the result. -/
def procR (c : Dev nD) (h : Fin 8) : P (F := F) PUnit := do
  gotC (residW (resR c h)) rbaM (wh _) semRa
  let a ← loadW (o8 c h)
  hasPut obaM (wh _) (outW (prvR c h)) semOa
  finish a rbaM obaM (wh _) (o61 c h) semOa
  if h.val < 7 then getC (residW (o62 c h)) rbaM (wh _) semRa
def procL (c : Dev nD) (h : Fin 7) : P (F := F) PUnit := do
  gotC (residW (resL c h)) rbbM (wh _) semRb
  let a ← loadW (o9 c h)
  if 0 < h.val then hasPut obbM (wh _) (outW (prvL c h)) semOb
  finish a rbbM obbM (wh _) (o71 c h.castSucc) semOb
  if h.val < 6 then getC (residW (o72 c h.castSucc)) rbbM (wh _) semRb

def hop (c : Dev nD) (h : Fin 7) : P (F := F) PUnit := do
  recvR c h.castSucc
  recvL c h
  procR c h.castSucc
  procL c h

/-- The sends' completions, then the two last results'. -/
def drain1 (c : Dev nD) (h : Fin 7) : P (F := F) PUnit := do
  waitW (o4 c h.castSucc) (semSr h.castSucc)
  waitW (o5 c h) (semSl h)
def finale (c : Dev nD) : P (F := F) PUnit := do
  waitW (o4 c 7) (semSr 7)
  hasPut obaM (wh _) (outW (o61 c 7)) semOa
  hasPut obbM (wh _) (outW (o71 c 6)) semOb

def after (c : Dev nD) : P (F := F) PUnit := do
  hop c 0
  hop c 1
  hop c 2
  hop c 3
  hop c 4
  hop c 5
  hop c 6
  recvR c 7
  procR c 7
  drain1 c 0
  drain1 c 1
  drain1 c 2
  drain1 c 3
  drain1 c 4
  drain1 c 5
  drain1 c 6
  finale c

def run (c : Dev nD) : P (F := F) PUnit := do
  begin1 c
  let s ← begin2 c
  begin3 c s
  after c

def prog : P (F := F) PUnit := do
  let c ← Prog.lift .deviceId
  run c

end Cert.Proof.Rms
-- ==== Proof.Same.lean ====
/-
  The printed body is the short program.
-/
module

public import proofs.«01_k».proof.Proof.Prog

@[expose] public section

noncomputable section

namespace Cert.Proof.Rms

open Idealize.ShloMosaic Idealize.ShloMosaic.TcCoe Idealize.SL Idealize.SL.Sem
open Cert.KernelIdeal Cert.KernelIdeal.Gen

variable {F : FTy → Type} [FloatOps F]

set_option maxRecDepth 65536 in
theorem body_eq (t : Fin cfg0.N) : (bodyAt0 t : Prog (TpuEff nD τ sig (Elt F) Λ₀ .tc) PUnit) = prog := by
  chain_rfl

end Cert.Proof.Rms
-- ==== Proof.Sched.lean ====
/-
  The protocol between the devices: the cells that devices credit on one another, what each credit carries, the order
  in which a device may wait for them, and what each device owes when the kernel starts.
-/
module

public import proofs.«01_k».proof.Proof.Prog
public import Idealize.ShloMosaic.Lib.Pipeline.Kit
public import Idealize.ShloMosaic.Lib.Rounds
public import Idealize.ShloMosaic.Lib.Transfers
public import Idealize.ShloMosaic.Lib.Memref
public import Idealize.ShloMosaic.Lib.Tactic

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the staging cells', the protocol's, the local copies' -/

abbrev UT : Type := URounds (GSem nD τ sig) (Fin 3)
abbrev UU : Type := UR sig nD τ × (UT × Counters)

local notation "𝕄" => MT nD τ sig Unit (Elt F) ℕ UU ℕ

abbrev EP : Emb (UR sig nD τ) (MT nD τ sig Unit (Elt F) ℕ UU ℕ) := embL
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance

abbrev EC : UEmb Counters (MT nD τ sig Unit (Elt F) ℕ UU ℕ) := countersEmb (U := UU)

abbrev 𝒱₀ : Variants := Variants.none

/-! ## What the devices read -/

/-- The inputs as the kernel reads them: each device's own chunk of the partial sums, its residual, its gamma. -/
structure Inp (F : FTy → Type) where
  pa : Dev nD → FVec F S512x2048 .f32
  rs : Dev nD → FVec F S8192x2048 .f32
  gm : Dev nD → FVec F S1x2048 .f32

/-- The sum of the two planes' chunks, as the device that adds them keeps and sends it. -/
def commV (I : Inp F) (d : Dev nD) : FVec F S512x2048 .bf16 := k0_pay3 (I.pa d) (k0_pay1 (I.pa (nbP d)))
/-- Chunk `j` of the sums, as device `c` gets it. -/
def cV (I : Inp F) (c : Dev nD) (j : Fin 16) : FVec F S512x2048 .bf16 := commV I (own c j)
/-- Chunk `j` of the residual. -/
def rV (I : Inp F) (c : Dev nD) (j : Fin 16) : FVec F S512x2048 .f32 := fun i => I.rs c ((chO j).rect.emb i)
/-- Chunk `j` of the result on device `c`; the own chunk is made from the sum before it is rounded. -/
def oV (I : Inp F) (c : Dev nD) (j : Fin 16) : FVec F S512x2048 .f32 :=
  if j = ch (pos c) then k0_pay5 (k0_pay4 (k0_pay2 (I.pa c) (k0_pay1 (I.pa (nbP c)))) (rV I c j)) (I.gm c)
  else normF (cV I c j) (rV I c j) (I.gm c)

theorem cV_nbR (I : Inp F) (c : Dev nD) (j : Fin 16) : cV I (nbR c) j = cV I c j := by unfold cV; rw [own_nbR]
theorem cV_nbL (I : Inp F) (c : Dev nD) (j : Fin 16) : cV I (nbL c) j = cV I c j := by unfold cV; rw [own_nbL]
theorem cV_own (I : Inp F) (c : Dev nD) : cV I c (ch (pos c)) = commV I c := by unfold cV; rw [own_pos]

/-! ## Cells -/

abbrev barC (c : Dev nD) : GSem nD τ sig := ((c : Thread nD τ), .reg barrier0)
abbrev dmaC (c : Dev nD) (s : DmaSem sig) : GSem nD τ sig := ((c : Thread nD τ), .dma s)

/-- The units that one chunk's copy credits. -/
abbrev N : ℕ := (prtM : Memref sig .tc .vmem S512x2048 .bf16).view.dmaCredit
theorem N_pos : 0 < N := View.dmaCredit_pos _ (by decide)
theorem N_comm (o : Off) : (commW o).view.dmaCredit = N := rfl

abbrev qL : PosShare TreeShare := fullShare.left
abbrev qR : PosShare TreeShare := fullShare.right

/-- A window of the gathered buffer of device `c`, chunk `j`. -/
abbrev cW (c : Dev nD) (q : PosShare TreeShare) (j : Fin 16) (X : FVec F S512x2048 .bf16) : sProp 𝕄 :=
  owns (c : Thread nD τ) (commW (chO j)) q X
/-- The same at contents not chosen. -/
abbrev cWany (c : Dev nD) (j : Fin 16) : sProp 𝕄 := iprop(∃ X, cW (F := F) c fullShare j X)

/-! ## What a credit carries -/

/-- To the other plane's device: the landing buffer of the exchange. -/
def barP (c : Dev nD) : sProp 𝕄 := iprop((∃ X, owns (nbP c : Thread nD τ) prtM fullShare X) ∗ reached ER (dmaC (nbP c) semXr) 0)
/-- To the device before: the windows into which it sends backward. -/
def barR (c : Dev nD) : sProp 𝕄 := bigSep Finset.univ fun h : Fin 8 =>
  iprop(cWany (F := F) (nbR c) (cr c h.val) ∗ reached ER (dmaC (nbR c) (semRr h)) 0)
/-- To the device after. -/
def barL (c : Dev nD) : sProp 𝕄 := bigSep Finset.univ fun h : Fin 7 =>
  iprop(cWany (F := F) (nbL c) (cl c h.val) ∗ reached ER (dmaC (nbL c) (semRl h)) 0)

def barPay (c : Dev nD) (d : Fin 3) : sProp 𝕄 := if d = 0 then barP c else if d = 1 then barR c else barL c

/-- A completion's or an arrival's, by the semaphore's number. -/
def dmaPay (I : Inp F) (c : Dev nD) (n : ℕ) : sProp 𝕄 :=
  if n = 2 then iprop(∃ X, owns (c : Thread nD τ) mybfM fullShare X)
  else if n = 3 then owns (c : Thread nD τ) prtM fullShare (k0_pay1 (I.pa (nbP c)))
  else if n < 12 then cW c qL (cr c (n - 4)) (cV I c (cr c (n - 4)))
  else if n < 20 then cW c fullShare (cr c (n - 12 + 1)) (cV I c (cr c (n - 12 + 1)))
  else if n < 27 then cW c qR (cl c (n - 20)) (cV I c (cl c (n - 20)))
  else cW c fullShare (cl c (n - 27 + 1)) (cV I c (cl c (n - 27 + 1)))

/-- The number of a DMA semaphore that devices credit on one another. -/
abbrev Talks (s : DmaSem sig) : Prop := 2 ≤ s.val ∧ s.val < 34

def Rd (I : Inp F) : Rounds.Schedule (GSem nD τ sig) (Fin 3) 𝕄 where
  duties g r := if r = 0 ∧ g.1.2 = .tc then (match g.2 with | .reg _ => Finset.univ | .dma s => if Talks s then {0} else ∅) else ∅
  unitless _ := False
  amount g _ _ := match g.2 with | .reg _ => 1 | .dma _ => N
  payload g _ d := match g.2 with | .reg _ => barPay g.1.1 d | .dma s => dmaPay I g.1.1 s.val
  amount_pos g _ _ _ := by
    rcases g with ⟨c, s | s⟩
    · exact Nat.one_pos
    · exact N_pos

instance barPay_storable (c : Dev nD) (d : Fin 3) : BI.Storable (upEmb : UEmb _ 𝕄) (barPay (F := F) c d) := by
  unfold barPay barP barR barL
  (repeat' split) <;> infer_instance
instance dmaPay_storable (I : Inp F) (c : Dev nD) (n : ℕ) : BI.Storable (upEmb : UEmb _ 𝕄) (dmaPay I c n) := by
  unfold dmaPay
  (repeat' split) <;> infer_instance
instance Rd_storable (I : Inp F) (g : GSem nD τ sig) (r : ℕ) (d : Fin 3) : BI.Storable (upEmb : UEmb _ 𝕄) ((Rd I).payload g r d) := by
  rcases g with ⟨c, s | s⟩
  · exact barPay_storable c.1 d
  · exact dmaPay_storable I c.1 s.val

section Tables
variable (I : Inp F) (c : Dev nD)

theorem duties_bar : (Rd I).duties (barC c) 0 = Finset.univ := by dsimp only [Rd]; exact if_pos ⟨rfl, rfl⟩
theorem duties_dma (s : DmaSem sig) (hs : Talks s) : (Rd I).duties (dmaC c s) 0 = {0} := by
  dsimp only [Rd]; rw [if_pos ⟨rfl, rfl⟩]; exact if_pos hs
theorem duties_later (g : GSem nD τ sig) : ∀ r, 1 ≤ r → (Rd I).duties g r = ∅ := fun r hr => by
  dsimp only [Rd]; exact if_neg (fun h => by omega)
theorem mem_bar (d : Fin 3) : d ∈ (Rd I).duties (barC c) 0 := by rw [duties_bar]; exact Finset.mem_univ d
theorem mem_dma (s : DmaSem sig) (hs : Talks s) : (0 : Fin 3) ∈ (Rd I).duties (dmaC c s) 0 := by
  rw [duties_dma I c s hs]; exact Finset.mem_singleton_self _
theorem amount_bar (d : Fin 3) : (Rd I).amount (barC c) 0 d = 1 := rfl
theorem amount_dma (s : DmaSem sig) (d : Fin 3) : (Rd I).amount (dmaC c s) 0 d = N := rfl
theorem expect_bar : (Rd I).expect (barC c) 0 = 3 := by
  unfold Schedule.expect Schedule.amountOf; rw [duties_bar]; simp only [amount_bar]; rfl
theorem expect_dma (s : DmaSem sig) (hs : Talks s) : (Rd I).expect (dmaC c s) 0 = N := by
  unfold Schedule.expect Schedule.amountOf; rw [duties_dma I c s hs, Finset.sum_singleton]; rfl
theorem rest_bar : bigSep ((Rd I).duties (barC c) 0 \ ∅) (fun u => (Rd I).payload (barC c) 0 u) = iprop(barP c ∗ barR c ∗ barL (F := F) c) := by
  rw [Finset.sdiff_empty, duties_bar, show (Finset.univ : Finset (Fin 3)) = {0, 1, 2} from rfl,
    bigSep_insert (by decide), bigSep_insert (by decide), bigSep_singleton]
  rfl
theorem rest_dma (s : DmaSem sig) (hs : Talks s) :
    bigSep ((Rd I).duties (dmaC c s) 0 \ ∅) (fun u => (Rd I).payload (dmaC c s) 0 u) = dmaPay I c s.val := by
  rw [Finset.sdiff_empty, duties_dma I c s hs, bigSep_singleton]; rfl

theorem talks_xs : Talks semXs := by decide
theorem talks_xr : Talks semXr := by decide
theorem talks_Sr : ∀ h, Talks (semSr h) := by decide
theorem talks_Rr : ∀ h, Talks (semRr h) := by decide
theorem talks_Sl : ∀ h, Talks (semSl h) := by decide
theorem talks_Rl : ∀ h, Talks (semRl h) := by decide

theorem pay_xs : dmaPay I c semXs.val = iprop(∃ X, owns (c : Thread nD τ) mybfM fullShare X) := rfl
theorem pay_xr : dmaPay I c semXr.val = owns (c : Thread nD τ) prtM fullShare (k0_pay1 (I.pa (nbP c))) := rfl
theorem pay_Sr (h : Fin 8) : dmaPay I c (semSr h).val = cW c qL (cr c h.val) (cV I c (cr c h.val)) := by
  have := h.isLt
  show dmaPay I c (4 + h.val) = _
  unfold dmaPay
  rw [if_neg (by omega), if_neg (by omega), if_pos (by omega), Nat.add_sub_cancel_left]
theorem pay_Rr (h : Fin 8) : dmaPay I c (semRr h).val = cW c fullShare (cr c (h.val + 1)) (cV I c (cr c (h.val + 1))) := by
  have := h.isLt
  show dmaPay I c (12 + h.val) = _
  unfold dmaPay
  rw [if_neg (by omega), if_neg (by omega), if_neg (by omega), if_pos (by omega), Nat.add_sub_cancel_left]
theorem pay_Sl (h : Fin 7) : dmaPay I c (semSl h).val = cW c qR (cl c h.val) (cV I c (cl c h.val)) := by
  have := h.isLt
  show dmaPay I c (20 + h.val) = _
  unfold dmaPay
  rw [if_neg (by omega), if_neg (by omega), if_neg (by omega), if_neg (by omega), if_pos (by omega), Nat.add_sub_cancel_left]
theorem pay_Rl (h : Fin 7) : dmaPay I c (semRl h).val = cW c fullShare (cl c (h.val + 1)) (cV I c (cl c (h.val + 1))) := by
  have := h.isLt
  show dmaPay I c (27 + h.val) = _
  unfold dmaPay
  rw [if_neg (by omega), if_neg (by omega), if_neg (by omega), if_neg (by omega), if_neg (by omega), Nat.add_sub_cancel_left]

end Tables

/-! ## Levels, and what is owed -/

def L (g : GSem nD τ sig) : Finset Unit := if g.1.2 = .tc then {()} else ∅
/-- The level of a DMA semaphore by its number: the exchange's arrival at 2, hop `h`'s arrivals at `3 + h`, all else at 0. -/
def lvD (n : ℕ) : ℕ := if n = 3 then 2 else if 12 ≤ n ∧ n < 20 then 3 + (n - 12) else if 27 ≤ n ∧ n < 34 then 3 + (n - 27) else 0
/-- Barrier cells at 1. -/
def lv (g : GSem nD τ sig) (_ : Unit) : ℕ := match g.2 with | .reg _ => 1 | .dma s => lvD s.val

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_dma (c : Dev nD) (s : DmaSem sig) : lv (dmaC c s) () = lvD s.val := rfl
theorem lv_xr (c : Dev nD) : lv (dmaC c semXr) () = 2 := rfl
theorem lv_Rr (c : Dev nD) (h : Fin 8) : lv (dmaC c (semRr h)) () = 3 + h.val :=
  (lv_dma c _).trans ((by decide : ∀ h : Fin 8, lvD (12 + h.val) = 3 + h.val) h)
theorem lv_Rl (c : Dev nD) (h : Fin 7) : lv (dmaC c (semRl h)) () = 3 + h.val :=
  (lv_dma c _).trans ((by decide : ∀ h : Fin 7, lvD (27 + h.val) = 3 + h.val) h)
theorem lv_Sr (c : Dev nD) (h : Fin 8) : lv (dmaC c (semSr h)) () = 0 :=
  (lv_dma c _).trans ((by decide : ∀ h : Fin 8, lvD (4 + h.val) = 0) h)
theorem lv_Sl (c : Dev nD) (h : Fin 7) : lv (dmaC c (semSl h)) () = 0 :=
  (lv_dma c _).trans ((by decide : ∀ h : Fin 7, lvD (20 + h.val) = 0) h)

abbrev Tal : Type := CellTallies nD τ sig Unit

/-- What is owed for the hops from `a` on one way and from `b` on the other. -/
def OR (c : Dev nD) (a : ℕ) : Tal := ∑ h ∈ Finset.univ.filter (fun h : Fin 8 => a ≤ h.val), tallyAt (dmaC (nbR c) (semRr h)) () N
def OL (c : Dev nD) (b : ℕ) : Tal := ∑ h ∈ Finset.univ.filter (fun h : Fin 7 => b ≤ h.val), tallyAt (dmaC (nbL c) (semRl h)) () N
/-- And for the exchange, and the three signals. -/
def OX (c : Dev nD) : Tal := tallyAt (dmaC (nbP c) semXr) () N
def OB (c : Dev nD) : Fin 3 → Tal := ![tallyAt (barC (nbP c)) () 1, tallyAt (barC (nbL c)) () 1, tallyAt (barC (nbR c)) () 1]
/-- What device `c` owes when the kernel starts, in the order it pays. -/
def O₀ (c : Dev nD) : Tal := OR c 0 + OL c 0 + OX c + OB c 2 + OB c 1 + OB c 0

theorem OR_succ (c : Dev nD) (h : Fin 8) : OR c h.val = OR c (h.val + 1) + tallyAt (dmaC (nbR c) (semRr h)) () N := by
  unfold OR
  rw [show (Finset.univ.filter fun i : Fin 8 => h.val ≤ i.val) = insert h (Finset.univ.filter fun i : Fin 8 => h.val + 1 ≤ i.val) from by
    ext i; simp only [Finset.mem_filter, Finset.mem_univ, true_and, Finset.mem_insert, Fin.ext_iff]; omega]
  rw [Finset.sum_insert (by simp), add_comm]
theorem OL_succ (c : Dev nD) (h : Fin 7) : OL c h.val = OL c (h.val + 1) + tallyAt (dmaC (nbL c) (semRl h)) () N := by
  unfold OL
  rw [show (Finset.univ.filter fun i : Fin 7 => h.val ≤ i.val) = insert h (Finset.univ.filter fun i : Fin 7 => h.val + 1 ≤ i.val) from by
    ext i; simp only [Finset.mem_filter, Finset.mem_univ, true_and, Finset.mem_insert, Fin.ext_iff]; omega]
  rw [Finset.sum_insert (by simp), add_comm]
theorem OR_end (c : Dev nD) (a : ℕ) (ha : 8 ≤ a) : OR c a = 0 := by
  unfold OR
  rw [show (Finset.univ.filter fun i : Fin 8 => a ≤ i.val) = ∅ from by ext i; have := i.isLt; simp; omega]; rfl
theorem OL_end (c : Dev nD) (b : ℕ) (hb : 7 ≤ b) : OL c b = 0 := by
  unfold OL
  rw [show (Finset.univ.filter fun i : Fin 7 => b ≤ i.val) = ∅ from by ext i; have := i.isLt; simp; omega]; rfl

/-- Everything in a tally lies at cells above a level. -/
def Above (b : ℕ) (O : Tal) : Prop := ∀ (g : GSem nD τ sig) (u : Unit), 0 < O g u → u ∈ L g ∧ b < lv g u

theorem above_zero (b : ℕ) : Above b 0 := fun g u h => absurd h (Nat.lt_irrefl 0)
theorem above_add {b : ℕ} {O O' : Tal} (h : Above b O) (h' : Above b O') : Above b (O + O') := fun g u hg => by
  have : 0 < O g u + O' g u := hg
  rcases Nat.pos_of_ne_zero (n := O g u + O' g u) (by omega) with _
  by_cases h0 : 0 < O g u
  · exact h g u h0
  · exact h' g u (by omega)
theorem above_tally {b : ℕ} (c : Dev nD) (sm : SemLoc sig) (n : ℕ) (hb : b < lv ((c : Thread nD τ), sm) ()) :
    Above b (tallyAt ((c : Thread nD τ), sm) () n) := fun g u hg => by
  rw [tallyAt_apply] at hg
  by_cases h : g = ((c : Thread nD τ), sm) ∧ u = ()
  · rw [h.1, L_tc]; exact ⟨Finset.mem_singleton_self _, hb⟩
  · rw [if_neg h] at hg; exact absurd hg (Nat.lt_irrefl 0)
theorem above_sum {α : Type} {b : ℕ} (s : Finset α) (f : α → Tal) (h : ∀ i ∈ s, Above b (f i)) : Above b (∑ i ∈ s, f i) := by
  classical
  induction s using Finset.induction_on with
  | empty => exact above_zero b
  | insert i s hi ih =>
    rw [Finset.sum_insert hi]
    exact above_add (h i (Finset.mem_insert_self ..)) (ih fun j hj => h j (Finset.mem_insert_of_mem hj))
theorem above_OR (c : Dev nD) (a b : ℕ) (h : b < 3 + a) : Above b (OR c a) :=
  above_sum _ _ fun i hi => above_tally _ _ _ (by rw [lv_Rr]; have := (Finset.mem_filter.mp hi).2; omega)
theorem above_OL (c : Dev nD) (a b : ℕ) (h : b < 3 + a) : Above b (OL c a) :=
  above_sum _ _ fun i hi => above_tally _ _ _ (by rw [lv_Rl]; have := (Finset.mem_filter.mp hi).2; omega)
theorem above_O₀ (c : Dev nD) : Above 0 (O₀ c) := by
  unfold O₀ OX OB
  refine above_add (above_add (above_add (above_add (above_add (above_OR c 0 0 (by decide)) (above_OL c 0 0 (by decide))) ?_) ?_) ?_) ?_
  · exact above_tally _ _ _ (by rw [lv_xr]; decide)
  all_goals exact above_tally _ _ _ (by rw [lv_bar]; decide)

theorem mayWait (b : ℕ) (c : Dev nD) (sm : SemLoc sig) (O : Tal) (hb : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1)
    (fun p hp => by rw [Finset.mem_singleton.mp hp]; exact hb)
    (fun g u hg => (hO g u hg).2)

/-! ## The protocol's invariants -/

/-- The cells of the protocol on the TensorCores: the barrier's, and the DMA semaphores that devices credit. -/
abbrev TSem : Type := Option {s : DmaSem sig // Talks s}
def tsem : TSem → SemLoc sig
  | none => .reg barrier0
  | some s => .dma s.1

def gcell (x : Dev nD × TSem) : GSem nD τ sig := ((x.1 : Thread nD τ), tsem x.2)

/-- The invariant of every cell of every device. -/
def invs (I : Inp F) (K : GSem nD τ sig → ℕ) : sProp 𝕄 :=
  bigSep Finset.univ fun x : Dev nD × TSem => cellInv ER (Rd I) (K (gcell x)) (gcell x)

instance invs_persistent (I : Inp F) (K : GSem nD τ sig → ℕ) : BI.Persistent (invs I K) := by unfold invs; infer_instance

theorem invs_at (I : Inp F) (K : GSem nD τ sig → ℕ) (x : Dev nD × TSem) : invs I K ⊢ cellInv ER (Rd I) (K (gcell x)) (gcell x) :=
  bigSep_elim (Φ := fun x : Dev nD × TSem => (cellInv ER (Rd I) (K (gcell x)) (gcell x) : sProp 𝕄)) (Finset.mem_univ x)
theorem invs_bar (I : Inp F) (K : GSem nD τ sig → ℕ) (c : Dev nD) : invs I K ⊢ cellInv ER (Rd I) (K (barC c)) (barC c) :=
  invs_at I K (c, none)
theorem invs_dma (I : Inp F) (K : GSem nD τ sig → ℕ) (c : Dev nD) (s : DmaSem sig) (hs : Talks s) :
    invs I K ⊢ cellInv ER (Rd I) (K (dmaC c s)) (dmaC c s) :=
  invs_at I K (c, some ⟨s, hs⟩)

theorem close (I : Inp F) (κ : ℕ) (g : GSem nD τ sig) :
    iprop(cellInv ER (Rd I) κ g ∗ atPos ER g 1 ∅ 0) ⊢ (|={Set.univ}=> semVal g 0 : sProp 𝕄) :=
  Rounds.cell_close ER (Rd I) (Set.mem_univ κ) id (duties_later I g)

end Cert.Proof.Rms
-- ==== Proof.Atoms.lean ====
/-
  One rule for each kind of operation in the kernel's body, in terms of what buffers and windows are read as.
-/
module

public import proofs.«01_k».proof.Proof.Sched
public import Idealize.ShloMosaic.Lib.WordExact

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The weakest precondition of a part of the body on device `c`. -/
abbrev WP (c : Dev nD) {α : Type} (p : P (F := F) α) (Q : α → sProp 𝕄) : sProp 𝕄 :=
  wp frame (wpE (defs₀ (F := F)) 𝒱₀ (c : Thread nD τ) none) Set.univ p Q

theorem WP_bind (c : Dev nD) {α β : Type} (p : P (F := F) α) (k : α → P (F := F) β) (Q : β → sProp 𝕄) :
    WP c (p >>= k) Q = WP c p (fun a => WP c (k a) Q) := wp_bind _ _ _ p k Q
theorem WP_pure (c : Dev nD) {α : Type} (a : α) (Q : α → sProp 𝕄) : Q a ⊢ WP c (pure a) Q := by
  unfold WP
  rw [Prog.pure_eq_ret, wp_ret]
  iintro H
  imodintro
  iexact H

/-- What device `c` owes, whatever waits it has recorded. -/
def ow (c : Dev nD) (O : Tal) : sProp 𝕄 := iprop(∃ W, owes (c : Thread nD τ) O W)

/-- A local copy in flight. -/
abbrev Fl (c : Dev nD) (s : DmaSem sig) (n : ℕ) (D : sProp 𝕄) : sProp 𝕄 := Transfers.Flight EC (c : Thread nD τ) (.dma s) () n D

/-- The units of a copy into a 512-row buffer, and into a window of the result. -/
abbrev NF : ℕ := (rbaM : Memref sig .tc .vmem S512x2048 .f32).view.dmaCredit
abbrev NO : ℕ := (outW (chO 0)).view.dmaCredit
theorem NF_pos : 0 < NF := View.dmaCredit_pos _ (by decide)
theorem NO_pos : 0 < NO := View.dmaCredit_pos _ (by decide)

section Local
variable (c : Dev nD)

/-- A whole memref of 512 rows, at contents not chosen. -/
abbrev anyF (c : Dev nD) {sp : Space} {e : EltTy} (m : Memref sig .tc sp S512x2048 e) : sProp 𝕄 := iprop(∃ X, owns (c : Thread nD τ) m fullShare X)

/-- The start of a local copy, between any two memrefs of 512 rows. -/
theorem wp_copy {sp sp' : Space} (src : Memref sig .tc sp S512x2048 .f32) (dst : Memref sig .tc sp' S512x2048 .f32) (s : DmaSem sig)
    (hs : src.view.WordExact) (hd : dst.view.WordExact) (ht : DmaTarget.Typed (nD := nD) (p := .tc) sp (SemLoc.dma s) (.here dst))
    (q : PosShare TreeShare) (X : FVec F S512x2048 .f32) (n : ℕ) (hn : dst.view.dmaCredit = n) (hn0 : 0 < n) (Q : PUnit → sProp 𝕄) :
    iprop(owns (c : Thread nD τ) src q X ∗ anyF c dst ∗ semVal (dmaC c s) 0)
      ⊢ iprop((Fl c s n iprop(owns (c : Thread nD τ) dst fullShare X ∗ owns (c : Thread nD τ) src q X) -∗ Q ⟨⟩)
        -∗ WP c (Prog.lift (.enqueueDma src (.here dst) (.dma s) hs hd ht)) Q) := by
  unfold anyF owns
  iintro ⟨⟨%f, %hf, Hs⟩, ⟨%Y, ⟨%g, %hg, Hd⟩⟩, Hv⟩ Hk
  iapply (Transfers.wp_dmaLocal EC 𝒱₀ (c : Thread nD τ) none (src := src) (via := .same) (dst := dst) (sm := .dma s) (q := q) (fs := f)
      (Sd := dst.view.set) (fd := g) () n hn hn0 (fun _ h => h)) $$ [Hs Hd Hv]
  · isplitl [Hs]; · iexact Hs
    isplitl [Hd]; · iexact Hd
    iexact Hv
  iintro Hf
  rw [wp_ret]
  imodintro
  iapply Hk
  iapply (Transfers.Flight_mono EC (c : Thread nD τ) ?_) $$ Hf
  iintro ⟨Hd, Hs⟩
  isplitl [Hd]
  · iexists _; isplitr
    swap; · iexact Hd
    ipureintro
    rw [View.read_write_univ]; exact hf
  · iexists f; isplitr; · ipureintro; exact hf
    iexact Hs

/-- The wait for a local copy. -/
theorem wp_copied {sp sp' : Space} (src : Memref sig .tc sp S512x2048 .f32) (dst : Memref sig .tc sp' S512x2048 .f32) (s : DmaSem sig)
    (hs : src.view.WordExact) (hd : dst.view.WordExact) (n : ℕ) (hn : dst.view.dmaCredit = n) (D : sProp 𝕄) (O : Tal)
    (hl : lvD s.val = 0) (hO : Above 0 O) (Q : PUnit → sProp 𝕄) :
    iprop(Fl c s n D ∗ ow c O ∗ levAts L lv)
      ⊢ iprop(((D ∗ semVal (dmaC c s) 0 ∗ ow c O) -∗ Q ⟨⟩) -∗ WP c (Prog.lift (.waitDma2 s src dst hs hd)) Q) := by
  unfold ow
  iintro ⟨Hf, ⟨%W, HO⟩, #HL⟩ Hk
  iapply (Transfers.wp_waitLocalO EC 𝒱₀ (c : Thread nD τ) none () hn (O := O) (W := W)) $$ [Hf HO]
  · isplitl [Hf]; · iexact Hf
    isplitl [HO]; · iexact HO
    iapply (mayWait 0 c (.dma s) O (by rw [lv_dma, hl]) hO); iexact HL
  iintro ⟨HD, Hv, HO⟩
  rw [wp_ret]
  imodintro
  iapply Hk
  isplitl [HD]; · iexact HD
  isplitl [Hv]; · iexact Hv
  iexists _; iexact HO

/-- A load through a rectangle of a memref that is owned. -/
theorem wp_loadR {s : Shape} {e : EltTy} (m : Memref sig .tc .vmem s e) (r : Rect s) (hl : m.view.LoadsAt r.toLoadRect)
    (q : PosShare TreeShare) (X : s.Idx → Elt F e) (Q : (r.shape.Idx → Elt F e) → sProp 𝕄) :
    owns (c : Thread nD τ) m q X
      ⊢ iprop((owns (c : Thread nD τ) m q X -∗ Q (fun j => X (r.emb j))) -∗ WP c (Prog.lift (.load m r.toLoadRect hl)) Q) := by
  unfold owns
  iintro ⟨%f, %hf, H⟩ Hk
  iapply (wp_load_rect (defs := defs₀ (F := F)) 𝒱₀ (c : Thread nD τ) none Set.univ (m := m) (r := r) (S := m.view.set) (f := f)
    (m.view.set_slice_subset r)) $$ H
  iintro H
  rw [wp_ret]
  imodintro
  rw [show (m.access r).read (Elt F) f = fun j => X (r.emb j) from by rw [← hf]; rfl]
  iapply Hk
  iexists f; isplitr; · ipureintro; exact hf
  iexact H

theorem emb512 (i : S512x2048.Idx) : r512.emb i = i := by
  funext a; apply Fin.ext
  rw [Rect.emb_apply, Rect.stride_unit, Nat.one_mul, Rect.off_unit]
  fin_cases a <;> exact Nat.zero_add _
theorem emb1 (i : S1x2048.Idx) : r1.emb i = i := by
  funext a; apply Fin.ext
  rw [Rect.emb_apply, Rect.stride_unit, Nat.one_mul, Rect.off_unit]
  fin_cases a <;> exact Nat.zero_add _

theorem wp_loadF {e : EltTy} (m : Memref sig .tc .vmem S512x2048 e) (q : PosShare TreeShare) (X : Vec F S512x2048 e)
    (Q : Vec F S512x2048 e → sProp 𝕄) :
    owns (c : Thread nD τ) m q X ⊢ iprop((owns (c : Thread nD τ) m q X -∗ Q X) -∗ WP c (loadF m) Q) := by
  have h := wp_loadR c m r512 (View.loadsAt_vmem h_S512x2048) q X Q
  rw [show (fun j => X (r512.emb j)) = X from funext fun j => congrArg X (emb512 j)] at h
  exact h
theorem wp_loadG (m : Memref sig .tc .vmem S1x2048 .f32) (q : PosShare TreeShare) (X : Vec F S1x2048 .f32)
    (Q : Vec F S1x2048 .f32 → sProp 𝕄) :
    owns (c : Thread nD τ) m q X ⊢ iprop((owns (c : Thread nD τ) m q X -∗ Q X) -∗ WP c (loadG m) Q) := by
  have h := wp_loadR c m r1 (View.loadsAt_vmem h_S1x2048) q X Q
  rw [show (fun j => X (r1.emb j)) = X from funext fun j => congrArg X (emb1 j)] at h
  exact h
theorem wp_loadW (o : Off) (q : PosShare TreeShare) (X : Vec F S512x2048 .bf16) (Q : Vec F S512x2048 .bf16 → sProp 𝕄) :
    owns (c : Thread nD τ) (commW o) q X ⊢ iprop((owns (c : Thread nD τ) (commW o) q X -∗ Q X) -∗ WP c (loadW o) Q) := by
  unfold owns
  iintro ⟨%f, %hf, H⟩ Hk
  iapply (wp_load_rect (defs := defs₀ (F := F)) 𝒱₀ (c : Thread nD τ) none Set.univ (m := commM) (r := o.rect) (S := (commW o).view.set) (f := f)
    (fun _ h => h)) $$ H
  iintro H
  rw [wp_ret]
  imodintro
  rw [show (commM.access o.rect).read (Elt F) f = X from hf]
  iapply Hk
  iexists f; isplitr; · ipureintro; exact hf
  iexact H

/-- A store over all of a 512-row buffer. -/
theorem wp_storeR {e : EltTy} (m : Memref sig .tc .vmem S512x2048 e) (w : Vec F S512x2048 e) (hx : (m.access r512).Stores Finset.univ)
    (hm : (Finset.univ : Finset r512.shape.Idx) = Finset.univ ∨ ∀ a, r512.stride a = 1) (Q : PUnit → sProp 𝕄) :
    anyF c m ⊢ iprop((owns (c : Thread nD τ) m fullShare w -∗ Q ⟨⟩) -∗ WP c (Prog.lift (.store m r512 w Finset.univ hx hm)) Q) := by
  unfold anyF owns
  iintro ⟨%X, %f, %hf, H⟩ Hk
  iapply (wp_store (defs := defs₀ (F := F)) 𝒱₀ (c : Thread nD τ) none Set.univ (m := m) (r := r512) (Mk := Finset.univ) (S := m.view.set) (f := f)
    (m.view.set_slice_subset r512)) $$ H
  iintro H
  rw [wp_ret]
  imodintro
  iapply Hk
  iexists _; isplitr
  swap; · iexact H
  ipureintro
  funext i
  refine Eq.trans ?_ (congrFun (View.read_write_univ (v := m.access r512) f w) i)
  exact congrArg _ (emb512 i).symm
theorem wp_storeW (o : Off) (w : Vec F S512x2048 .bf16) (hx : (commM.access o.rect).Stores Finset.univ)
    (hm : (Finset.univ : Finset o.rect.shape.Idx) = Finset.univ ∨ ∀ a, o.rect.stride a = 1) (Q : PUnit → sProp 𝕄) :
    anyF c (commW o) ⊢ iprop((owns (c : Thread nD τ) (commW o) fullShare w -∗ Q ⟨⟩) -∗ WP c (Prog.lift (.store commM o.rect w Finset.univ hx hm)) Q) := by
  unfold anyF owns
  iintro ⟨%X, %f, %hf, H⟩ Hk
  iapply (wp_store (defs := defs₀ (F := F)) 𝒱₀ (c : Thread nD τ) none Set.univ (m := commM) (r := o.rect) (Mk := Finset.univ)
    (S := (commW o).view.set) (f := f) (fun _ h => h)) $$ H
  iintro H
  rw [wp_ret]
  imodintro
  iapply Hk
  iexists _; isplitr
  swap; · iexact H
  ipureintro
  exact View.read_write_univ (v := commM.access o.rect) f w

end Local

section Talk
variable (I : Inp F) (K : GSem nD τ sig → ℕ) (c : Dev nD)

/-- A remote copy of 512 rows: it pays the own completion with the source, and the receiver's arrival with what landed. -/
theorem wp_sendG (d : Dev nD) (src dst : Memref sig .tc .vmem S512x2048 .bf16) (sS sR : DmaSem sig) (hS : Talks sS) (hR : Talks sR)
    (hs : src.view.WordExact) (hd : dst.view.WordExact)
    (ht : DmaTarget.Typed (nD := nD) (p := .tc) .vmem (SemLoc.dma sR) (.remote (Dev.tc d) dst (.dma sS)))
    (q : PosShare TreeShare) (X : FVec F S512x2048 .bf16) (hn : dst.view.dmaCredit = N) (O O' : Tal) (hO : O' = O + tallyAt (dmaC d sR) () N)
    (h1 : owns (c : Thread nD τ) src q X ⊢ dmaPay I c sS.val) (h2 : owns (d : Thread nD τ) dst fullShare X ⊢ dmaPay I d sR.val)
    (Q : PUnit → sProp 𝕄) :
    iprop(invs I K ∗ owns (c : Thread nD τ) src q X ∗ anyF d dst ∗ ow c O' ∗ dutyTok ER (dmaC c sS) 0 (0 : Fin 3) ∗ reached ER (dmaC c sS) 0
        ∗ dutyTok ER (dmaC d sR) 0 (0 : Fin 3) ∗ reached ER (dmaC d sR) 0)
      ⊢ iprop(((cred (tallyAt (dmaC c sS) () N) ∗ ow c O) -∗ Q ⟨⟩)
        -∗ WP c (Prog.lift (.enqueueDma src (.remote (Dev.tc d) dst (.dma sS)) (.dma sR) hs hd ht)) Q) := by
  unfold ow
  iintro ⟨#HI, Hs, ⟨%Y, Hd⟩, ⟨%W, HO⟩, Ht1, Hr1, Ht2, Hr2⟩ Hk
  ihave Hs' := (show owns (c : Thread nD τ) src q X ⊢ (iprop(∃ f, ⌜src.view.read (Elt F) f = X⌝ ∗ (src.view.loc (c : Thread nD τ) ↦[src.view.set]{q} f)) : sProp 𝕄) from .rfl) $$ Hs
  ihave Hd' := (show owns (d : Thread nD τ) dst fullShare Y ⊢ (iprop(∃ f, ⌜dst.view.read (Elt F) f = Y⌝ ∗ (dst.view.loc (d : Thread nD τ) ↦[dst.view.set]{fullShare} f)) : sProp 𝕄) from .rfl) $$ Hd
  icases Hs' with ⟨%f, %hf, Hs⟩
  icases Hd' with ⟨%g, %hg, Hd⟩
  iapply (Rounds.wp_send_pointsTo (defs := defs₀ (F := F)) 𝒱₀ ER (Rd I) (c : Thread nD τ) none (c' := (d : Thread nD τ)) (src := src) (dst := dst)
      (sS := .dma sS) (sem := .dma sR) (q := q) (fs := f) (κ₁ := K (dmaC c sS)) (κ₂ := K (dmaC d sR))
      (r₁ := 0) (r₂ := 0) (d₁ := 0) (d₂ := 0) (fd := g)
      (mem_dma I c sS hS) (mem_dma I d sR hR)
      () () N hn (amount_dma I c sS 0) (amount_dma I d sR 0) O hO (W := W)
      (by refine BIBase.Entails.trans ?_ h1; unfold owns; iintro H; iexists f; isplitr; · ipureintro; exact hf
          iexact H)
      (by refine BIBase.Entails.trans ?_ h2; unfold owns; iintro H; iexists _; isplitr
          swap; · iexact H
          ipureintro; rw [View.read_write_univ]; exact hf)) $$ [Hs Hd HO Ht1 Ht2 Hr1 Hr2]
  · isplitr; · iapply (invs_dma I K c sS hS); iexact HI
    isplitr; · iapply (invs_dma I K d sR hR); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  rw [wp_ret]
  imodintro
  iapply Hk
  isplitl [Hc]; · iexact Hc
  iexists _; iexact HO

/-- The wait for a completion or an arrival. -/
theorem wp_recvG (src dst : Memref sig .tc .vmem S512x2048 .bf16) (s : DmaSem sig) (hS : Talks s)
    (hs : src.view.WordExact) (hd : dst.view.WordExact) (hn : dst.view.dmaCredit = N) (b : ℕ) (O : Tal) (hl : lvD s.val ≤ b) (hO : Above b O)
    (Q : PUnit → sProp 𝕄) :
    iprop(invs I K ∗ levAts L lv ∗ cred (tallyAt (dmaC c s) () N) ∗ atPos ER (dmaC c s) 0 ∅ 0 ∗ ow c O)
      ⊢ iprop(((dmaPay I c s.val ∗ atPos ER (dmaC c s) 1 ∅ 0 ∗ ow c O) -∗ Q ⟨⟩) -∗ WP c (Prog.lift (.waitDma2 s src dst hs hd)) Q) := by
  unfold ow
  iintro ⟨#HI, #HL, Hc, Ha, ⟨%W, HO⟩⟩ Hk
  iapply (Rounds.wp_wait_rest_token (defs := defs₀ (F := F)) 𝒱₀ ER (Rd I) (c : Thread nD τ) none (κ := K (dmaC c s))
      (wpE_waitDma2_eq 𝒱₀ (c : Thread nD τ) none Set.univ) (Set.mem_univ _) () (O := O) (W := W) (R := 0) (m := 0) (T := ∅)
      ((Nat.zero_add _).trans (hn.trans (expect_dma I c s hS).symm))) $$ [Hc HO Ha]
  · isplitr; · iapply (invs_dma I K c s hS); iexact HI
    isplitl [Hc]; · rw [hn]; iexact Hc
    isplitl [HO]; · iexact HO
    isplitr; · iapply (mayWait b c (.dma s) O (by rw [lv_dma]; exact hl) hO); iexact HL
    iexact Ha
  iintro ⟨HO, Ha, -, Hp⟩
  ihave Hp := (Entails.of_eq (rest_dma I c s hS)) $$ Hp
  rw [wp_ret]
  imodintro
  iapply Hk
  isplitl [Hp]; · iexact Hp
  isplitl [Ha]; · iexact Ha
  iexists _; iexact HO

/-- A signal to a neighbour. -/
theorem wp_sig (d : Dev nD) (u : Fin 3) (O O' : Tal) (hO : O' = O + tallyAt (barC d) () 1) (Q : PUnit → sProp 𝕄) :
    iprop(invs I K ∗ ow c O' ∗ dutyTok ER (barC d) 0 u ∗ barPay d u ∗ reached ER (barC d) 0)
      ⊢ iprop((ow c O -∗ Q ⟨⟩) -∗ WP c (semSignalWord d barrier0 1#32) Q) := by
  unfold ow
  iintro ⟨#HI, ⟨%W, HO⟩, Ht, Hp, Hr⟩ Hk
  iapply (Rounds.wp_signal (defs := defs₀ (F := F)) 𝒱₀ ER (Rd I) (c : Thread nD τ) none (dst := (d : Thread nD τ)) (sem := barrier0) (r := 0) (d := u)
      (κ := K (barC d)) (mem_bar I d u) (amount_bar I d u) () O hO (W := W)) $$ [HO Ht Hp Hr]
  · isplitr; · iapply (invs_bar I K d); iexact HI
    isplitl [HO]; · iexact HO
    isplitl [Ht]; · iexact Ht
    isplitl [Hp]; · iapply (Entails.of_eq (show barPay d u = (Rd I).payload (barC d) 0 u from rfl)); iexact Hp
    iexact Hr
  iintro HO
  rw [wp_ret]
  imodintro
  iapply Hk
  iexists _; iexact HO

/-- The wait for the three neighbours' signals. -/
theorem wp_bar (O : Tal) (hO : Above 1 O) (Q : PUnit → sProp 𝕄) :
    iprop(invs I K ∗ levAts L lv ∗ cred (tallyAt (barC c) () 3) ∗ atPos ER (barC c) 0 ∅ 0 ∗ ow c O)
      ⊢ iprop(((barP c ∗ barR c ∗ barL (F := F) c ∗ atPos ER (barC c) 1 ∅ 0 ∗ ow c O) -∗ Q ⟨⟩) -∗ WP c (semWaitWord barrier0 3#32) Q) := by
  unfold ow
  iintro ⟨#HI, #HL, Hc, Ha, ⟨%W, HO⟩⟩ Hk
  iapply (Rounds.wp_wait_rest_token (defs := defs₀ (F := F)) 𝒱₀ ER (Rd I) (c : Thread nD τ) none (κ := K (barC c))
      (wpE_semWait_eq 𝒱₀ (c : Thread nD τ) none Set.univ) (Set.mem_univ _) () (O := O) (W := W) (R := 0) (m := 0) (T := ∅)
      ((Nat.zero_add _).trans (expect_bar I c).symm)) $$ [Hc HO Ha]
  · isplitr; · iapply (invs_bar I K c); iexact HI
    isplitl [Hc]; · iexact Hc
    isplitl [HO]; · iexact HO
    isplitr; · iapply (mayWait 1 c (.reg barrier0) O (by rw [lv_bar]) hO); iexact HL
    iexact Ha
  iintro ⟨HO, Ha, -, Hp⟩
  ihave Hp := (Entails.of_eq (rest_bar I c)) $$ Hp
  icases Hp with ⟨H1, H2, H3⟩
  rw [wp_ret]
  imodintro
  iapply Hk
  isplitl [H1]; · iexact H1
  isplitl [H2]; · iexact H2
  isplitl [H3]; · iexact H3
  isplitl [Ha]; · iexact Ha
  iexists _; iexact HO

end Talk

end Cert.Proof.Rms
-- ==== Proof.Hops.lean ====
/-
  The hops: what a device holds before hop `h`, and that each half of a hop takes it to the next.
-/
module

public import proofs.«01_k».proof.Proof.Atoms

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families indexed by the hop -/

/-- One member of a family taken out, to be put back changed. -/
theorem fam {n : ℕ} (i : Fin n) (Φ Ψ : Fin n → sProp 𝕄) (h : ∀ j, j ≠ i → Φ j = Ψ j) :
    bigSep Finset.univ Φ ⊢ iprop(Φ i ∗ (Ψ i -∗ bigSep Finset.univ Ψ)) := by
  have e : bigSep (Finset.univ.erase i) Φ = bigSep (Finset.univ.erase i) Ψ := bigSep_congr fun j hj => h j (Finset.ne_of_mem_erase hj)
  have e₁ : bigSep Finset.univ Φ = iprop(Φ i ∗ bigSep (Finset.univ.erase i) Ψ) := by rw [bigSep_univ_split i, e]; rfl
  have e₂ : bigSep Finset.univ Ψ = iprop(Ψ i ∗ bigSep (Finset.univ.erase i) Ψ) := bigSep_univ_split i
  rw [e₁, e₂]
  iintro ⟨H, Hr⟩
  isplitl [H]; · iexact H
  iintro H
  isplitl [H]; · iexact H
  iexact Hr

theorem fam_same {n : ℕ} (Φ Ψ : Fin n → sProp 𝕄) (h : ∀ j, Φ j = Ψ j) : bigSep Finset.univ Φ ⊢ bigSep Finset.univ Ψ :=
  Entails.of_eq (bigSep_congr fun j _ => h j)

section
variable (I : Inp F) (K : GSem nD τ sig → ℕ) (c : Dev nD)

/-! ### Arrivals and sends -/

/-- What a send to the device after (before) takes: the duties, and the window it writes. -/
def sndR (h : Fin 8) : sProp 𝕄 :=
  iprop(dutyTok ER (dmaC c (semSr h)) 0 (0 : Fin 3) ∗ reached ER (dmaC c (semSr h)) 0 ∗ dutyTok ER (dmaC (nbR c) (semRr h)) 0 (0 : Fin 3)
    ∗ cWany (F := F) (nbR c) (cr c h.val) ∗ reached ER (dmaC (nbR c) (semRr h)) 0)
def sndL (h : Fin 7) : sProp 𝕄 :=
  iprop(dutyTok ER (dmaC c (semSl h)) 0 (0 : Fin 3) ∗ reached ER (dmaC c (semSl h)) 0 ∗ dutyTok ER (dmaC (nbL c) (semRl h)) 0 (0 : Fin 3)
    ∗ cWany (F := F) (nbL c) (cl c h.val) ∗ reached ER (dmaC (nbL c) (semRl h)) 0)

/-- The sends after `k` of them. -/
def oR (k : ℕ) (h : Fin 8) : sProp 𝕄 := if h.val < k then cred (tallyAt (dmaC c (semSr h)) () N) else sndR (F := F) c h
def oL (k : ℕ) (h : Fin 7) : sProp 𝕄 := if h.val < k then cred (tallyAt (dmaC c (semSl h)) () N) else sndL (F := F) c h
/-- The arrivals after `k` of them. -/
def aR (k : ℕ) (h : Fin 8) : sProp 𝕄 :=
  if h.val < k then atPos ER (dmaC c (semRr h)) 1 ∅ 0 else iprop(cred (tallyAt (dmaC c (semRr h)) () N) ∗ atPos ER (dmaC c (semRr h)) 0 ∅ 0)
def aL (k : ℕ) (h : Fin 7) : sProp 𝕄 :=
  if h.val < k then atPos ER (dmaC c (semRl h)) 1 ∅ 0 else iprop(cred (tallyAt (dmaC c (semRl h)) () N) ∗ atPos ER (dmaC c (semRl h)) 0 ∅ 0)

theorem aR_step (h : Fin 8) : bigSep Finset.univ (aR (F := F) c h.val)
    ⊢ iprop((cred (tallyAt (dmaC c (semRr h)) () N) ∗ atPos ER (dmaC c (semRr h)) 0 ∅ 0)
      ∗ (atPos ER (dmaC c (semRr h)) 1 ∅ 0 -∗ bigSep Finset.univ (aR (F := F) c (h.val + 1)))) := by
  have := fam h (aR (F := F) c h.val) (aR c (h.val + 1)) fun j hj => by
    unfold aR; have : j.val ≠ h.val := fun e => hj (Fin.ext e)
    by_cases hc : j.val < h.val
    · rw [if_pos hc, if_pos (by omega)]
    · rw [if_neg hc, if_neg (by omega)]
  rwa [show aR (F := F) c h.val h = iprop(cred (tallyAt (dmaC c (semRr h)) () N) ∗ atPos ER (dmaC c (semRr h)) 0 ∅ 0) from if_neg (by omega),
    show aR (F := F) c (h.val + 1) h = atPos ER (dmaC c (semRr h)) 1 ∅ 0 from if_pos (by omega)] at this
theorem aL_step (h : Fin 7) : bigSep Finset.univ (aL (F := F) c h.val)
    ⊢ iprop((cred (tallyAt (dmaC c (semRl h)) () N) ∗ atPos ER (dmaC c (semRl h)) 0 ∅ 0)
      ∗ (atPos ER (dmaC c (semRl h)) 1 ∅ 0 -∗ bigSep Finset.univ (aL (F := F) c (h.val + 1)))) := by
  have := fam h (aL (F := F) c h.val) (aL c (h.val + 1)) fun j hj => by
    unfold aL; have : j.val ≠ h.val := fun e => hj (Fin.ext e)
    by_cases hc : j.val < h.val
    · rw [if_pos hc, if_pos (by omega)]
    · rw [if_neg hc, if_neg (by omega)]
  rwa [show aL (F := F) c h.val h = iprop(cred (tallyAt (dmaC c (semRl h)) () N) ∗ atPos ER (dmaC c (semRl h)) 0 ∅ 0) from if_neg (by omega),
    show aL (F := F) c (h.val + 1) h = atPos ER (dmaC c (semRl h)) 1 ∅ 0 from if_pos (by omega)] at this
theorem oR_step (h : Fin 8) : bigSep Finset.univ (oR (F := F) c h.val)
    ⊢ iprop(sndR c h ∗ (cred (tallyAt (dmaC c (semSr h)) () N) -∗ bigSep Finset.univ (oR (F := F) c (h.val + 1)))) := by
  have := fam h (oR (F := F) c h.val) (oR c (h.val + 1)) fun j hj => by
    unfold oR; have : j.val ≠ h.val := fun e => hj (Fin.ext e)
    by_cases hc : j.val < h.val
    · rw [if_pos hc, if_pos (by omega)]
    · rw [if_neg hc, if_neg (by omega)]
  rwa [show oR (F := F) c h.val h = sndR c h from if_neg (by omega),
    show oR (F := F) c (h.val + 1) h = cred (tallyAt (dmaC c (semSr h)) () N) from if_pos (by omega)] at this
theorem oL_step (h : Fin 7) : bigSep Finset.univ (oL (F := F) c h.val)
    ⊢ iprop(sndL c h ∗ (cred (tallyAt (dmaC c (semSl h)) () N) -∗ bigSep Finset.univ (oL (F := F) c (h.val + 1)))) := by
  have := fam h (oL (F := F) c h.val) (oL c (h.val + 1)) fun j hj => by
    unfold oL; have : j.val ≠ h.val := fun e => hj (Fin.ext e)
    by_cases hc : j.val < h.val
    · rw [if_pos hc, if_pos (by omega)]
    · rw [if_neg hc, if_neg (by omega)]
  rwa [show oL (F := F) c h.val h = sndL c h from if_neg (by omega),
    show oL (F := F) c (h.val + 1) h = cred (tallyAt (dmaC c (semSl h)) () N) from if_pos (by omega)] at this
theorem oR_last : bigSep Finset.univ (oR (F := F) c 8) ⊢ bigSep Finset.univ (oR (F := F) c 9) :=
  fam_same _ _ fun j => by unfold oR; rw [if_pos j.isLt, if_pos (by omega)]
theorem oL_last : bigSep Finset.univ (oL (F := F) c 7) ⊢ bigSep Finset.univ (oL (F := F) c 8) :=
  fam_same _ _ fun j => by unfold oL; rw [if_pos j.isLt, if_pos (by omega)]

/-- The share of an arrived chunk that is kept for loading: half of what is sent on, all of the last. -/
def kqR (h : Fin 8) : PosShare TreeShare := if h.val < 7 then qR else fullShare
def kqL (h : Fin 7) : PosShare TreeShare := if h.val < 6 then qL else fullShare

theorem cW_split (j : Fin 16) (X : FVec F S512x2048 .bf16) : (cW c fullShare j X : sProp 𝕄) ⊢ iprop(cW c qL j X ∗ cW c qR j X) := by
  unfold cW owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- A send on either way, of the chunk at hand. -/
theorem wp_sendR (h : Fin 8) (O : Tal) (Q : PUnit → sProp 𝕄) :
    iprop(invs I K ∗ cW c qL (cr c h.val) (cV I c (cr c h.val)) ∗ sndR c h ∗ ow c (OR c h.val + O))
      ⊢ iprop(((cred (tallyAt (dmaC c (semSr h)) () N) ∗ ow c (OR c (h.val + 1) + O)) -∗ Q ⟨⟩)
        -∗ WP c (sendW (o4 c h) (devR c h) (semSr h) (semRr h)) Q) := by
  have hx : cr (nbR c) (h.val + 1) = cr c h.val := cr_nbR c _ (by omega)
  unfold sendW sndR
  rw [o4_eq, devR_eq]
  iintro ⟨#HI, Hs, ⟨Ht1, Hr1, Ht2, Hw, Hr2⟩, HO⟩ Hk
  iapply (wp_sendG I K c (nbR c) (commW (chO (cr c h.val))) (commW (chO (cr c h.val))) (semSr h) (semRr h) (talks_Sr h) (talks_Rr h)
    (commW_exact _) (commW_exact _) ⟨⟨rfl, Or.inl rfl⟩, trivial⟩ qL (cV I c (cr c h.val)) (N_comm _) (OR c (h.val + 1) + O) (OR c h.val + O)
    (by rw [OR_succ, add_right_comm]) (by rw [pay_Sr]) (by rw [pay_Rr, hx, cV_nbR])) $$ [Hs Hw HO Ht1 Hr1 Ht2 Hr2]
  · isplitr; · iexact HI
    isplitl [Hs]; · iexact Hs
    isplitl [Hw]; · iexact Hw
    isplitl [HO]; · iexact HO
    isplitl [Ht1]; · iexact Ht1
    isplitl [Hr1]; · iexact Hr1
    isplitl [Ht2]; · iexact Ht2
    iexact Hr2
  iexact Hk

theorem wp_sendL (h : Fin 7) (O : Tal) (Q : PUnit → sProp 𝕄) :
    iprop(invs I K ∗ cW c qR (cl c h.val) (cV I c (cl c h.val)) ∗ sndL c h ∗ ow c (O + OL c h.val))
      ⊢ iprop(((cred (tallyAt (dmaC c (semSl h)) () N) ∗ ow c (O + OL c (h.val + 1))) -∗ Q ⟨⟩)
        -∗ WP c (sendW (o5 c h) (devL c h) (semSl h) (semRl h)) Q) := by
  have hx : cl (nbL c) (h.val + 1) = cl c h.val := cl_nbL c _
  unfold sendW sndL
  rw [o5_eq, devL_eq]
  iintro ⟨#HI, Hs, ⟨Ht1, Hr1, Ht2, Hw, Hr2⟩, HO⟩ Hk
  iapply (wp_sendG I K c (nbL c) (commW (chO (cl c h.val))) (commW (chO (cl c h.val))) (semSl h) (semRl h) (talks_Sl h) (talks_Rl h)
    (commW_exact _) (commW_exact _) ⟨⟨rfl, Or.inl rfl⟩, trivial⟩ qR (cV I c (cl c h.val)) (N_comm _) (O + OL c (h.val + 1)) (O + OL c h.val)
    (by rw [OL_succ, add_assoc]) (by rw [pay_Sl]) (by rw [pay_Rl, hx, cV_nbL])) $$ [Hs Hw HO Ht1 Hr1 Ht2 Hr2]
  · isplitr; · iexact HI
    isplitl [Hs]; · iexact Hs
    isplitl [Hw]; · iexact Hw
    isplitl [HO]; · iexact HO
    isplitl [Ht1]; · iexact Ht1
    isplitl [Hr1]; · iexact Hr1
    isplitl [Ht2]; · iexact Ht2
    iexact Hr2
  iexact Hk

theorem wp_recvR (h : Fin 8) (b : ℕ) (hb : h.val + 1 ≤ b) (Q : PUnit → sProp 𝕄) :
    iprop(invs I K ∗ levAts L lv ∗ bigSep Finset.univ (aR (F := F) c h.val) ∗ bigSep Finset.univ (oR (F := F) c (h.val + 1))
        ∗ ow c (OR c (h.val + 1) + OL c b))
      ⊢ iprop(((bigSep Finset.univ (aR (F := F) c (h.val + 1)) ∗ bigSep Finset.univ (oR (F := F) c (h.val + 2))
          ∗ cW c (kqR h) (cr c (h.val + 1)) (cV I c (cr c (h.val + 1))) ∗ ow c (OR c (h.val + 2) + OL c b)) -∗ Q ⟨⟩)
        -∗ WP c (recvR c h) Q) := by
  unfold recvR waitW
  rw [o61_eq, WP_bind]
  iintro ⟨#HI, #HL, Ha, Ho, HO⟩ Hk
  ihave Ha := (aR_step c h) $$ Ha
  icases Ha with ⟨⟨Hc, Hp⟩, Ha⟩
  iapply (wp_recvG I K c (commW (chO (cr c (h.val + 1)))) (commW (chO (cr c (h.val + 1)))) (semRr h) (talks_Rr h) (commW_exact _) (commW_exact _) (N_comm _)
    (3 + h.val) (OR c (h.val + 1) + OL c b) (le_of_eq (lv_Rr c h)) (above_add (above_OR _ _ _ (by omega)) (above_OL _ _ _ (by omega)))) $$ [Hc Hp HO]
  · isplitr; · iexact HI
    isplitr; · iexact HL
    isplitl [Hc]; · iexact Hc
    isplitl [Hp]; · iexact Hp
    iexact HO
  rw [pay_Rr]
  iintro ⟨Hw, Hp, HO⟩
  ihave Ha := Ha $$ Hp
  by_cases hh : h.val < 7
  · rw [dif_pos hh, show kqR h = qR from if_pos hh]
    ihave Hw := (cW_split c (cr c (h.val + 1)) _) $$ Hw
    icases Hw with ⟨Hw1, Hw2⟩
    ihave Ho := (oR_step (F := F) c ⟨h.val + 1, by omega⟩) $$ Ho
    icases Ho with ⟨Hs, Ho⟩
    iapply (wp_sendR I K c ⟨h.val + 1, Nat.succ_lt_succ hh⟩ (OL c b)) $$ [Hw1 Hs HO]
    · isplitr; · iexact HI
      isplitl [Hw1]; · iexact Hw1
      isplitl [Hs]; · iexact Hs
      iexact HO
    iintro ⟨Hc, HO⟩
    iapply Hk
    isplitl [Ha]; · iexact Ha
    isplitl [Hc Ho]; · iapply Ho; iexact Hc
    isplitl [Hw2]; · iexact Hw2
    iexact HO
  · have e : h.val = 7 := by omega
    rw [dif_neg hh, show kqR h = fullShare from if_neg hh]
    iapply (WP_pure c)
    iapply Hk
    isplitl [Ha]; · iexact Ha
    isplitl [Ho]; · rw [e]; iapply (oR_last c); iexact Ho
    isplitl [Hw]; · iexact Hw
    rw [e, OR_end c 8 (by omega), OR_end c 9 (by omega)]
    iexact HO

theorem wp_recvL (h : Fin 7) (b : ℕ) (hb : h.val + 1 ≤ b) (Q : PUnit → sProp 𝕄) :
    iprop(invs I K ∗ levAts L lv ∗ bigSep Finset.univ (aL (F := F) c h.val) ∗ bigSep Finset.univ (oL (F := F) c (h.val + 1))
        ∗ ow c (OR c b + OL c (h.val + 1)))
      ⊢ iprop(((bigSep Finset.univ (aL (F := F) c (h.val + 1)) ∗ bigSep Finset.univ (oL (F := F) c (h.val + 2))
          ∗ cW c (kqL h) (cl c (h.val + 1)) (cV I c (cl c (h.val + 1))) ∗ ow c (OR c b + OL c (h.val + 2))) -∗ Q ⟨⟩)
        -∗ WP c (recvL c h) Q) := by
  unfold recvL waitW
  rw [o71_eq, WP_bind, Fin.val_castSucc]
  iintro ⟨#HI, #HL, Ha, Ho, HO⟩ Hk
  ihave Ha := (aL_step c h) $$ Ha
  icases Ha with ⟨⟨Hc, Hp⟩, Ha⟩
  iapply (wp_recvG I K c (commW (chO (cl c (h.val + 1)))) (commW (chO (cl c (h.val + 1)))) (semRl h) (talks_Rl h) (commW_exact _) (commW_exact _) (N_comm _)
    (3 + h.val) (OR c b + OL c (h.val + 1)) (le_of_eq (lv_Rl c h)) (above_add (above_OR _ _ _ (by omega)) (above_OL _ _ _ (by omega)))) $$ [Hc Hp HO]
  · isplitr; · iexact HI
    isplitr; · iexact HL
    isplitl [Hc]; · iexact Hc
    isplitl [Hp]; · iexact Hp
    iexact HO
  rw [pay_Rl]
  iintro ⟨Hw, Hp, HO⟩
  ihave Ha := Ha $$ Hp
  by_cases hh : h.val < 6
  · rw [dif_pos hh, show kqL h = qL from if_pos hh]
    ihave Hw := (cW_split c (cl c (h.val + 1)) _) $$ Hw
    icases Hw with ⟨Hw1, Hw2⟩
    ihave Ho := (oL_step (F := F) c ⟨h.val + 1, by omega⟩) $$ Ho
    icases Ho with ⟨Hs, Ho⟩
    iapply (wp_sendL I K c ⟨h.val + 1, Nat.succ_lt_succ hh⟩ (OR c b)) $$ [Hw2 Hs HO]
    · isplitr; · iexact HI
      isplitl [Hw2]; · iexact Hw2
      isplitl [Hs]; · iexact Hs
      iexact HO
    iintro ⟨Hc, HO⟩
    iapply Hk
    isplitl [Ha]; · iexact Ha
    isplitl [Hc Ho]; · iapply Ho; iexact Hc
    isplitl [Hw1]; · iexact Hw1
    iexact HO
  · have e : h.val = 6 := by omega
    rw [dif_neg hh, show kqL h = fullShare from if_neg hh]
    iapply (WP_pure c)
    iapply Hk
    isplitl [Ha]; · iexact Ha
    isplitl [Ho]; · rw [e]; iapply (oL_last c); iexact Ho
    isplitl [Hw]; · iexact Hw
    rw [e, OL_end c 7 (by omega), OL_end c 8 (by omega)]
    iexact HO

end

end Cert.Proof.Rms
-- ==== Proof.Chunks.lean ====
/-
  A hop's chunks: the residual's chunk in, the sum normalised, the result's chunk out; and the last waits.
-/
module

public import proofs.«01_k».proof.Proof.Hops

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families with a hole, and families done up to a point -/

/-- A family without its member `k`. -/
def hole {n : ℕ} (A : Fin n → sProp 𝕄) (k : ℕ) (i : Fin n) : sProp 𝕄 := if i.val = k then iprop(emp) else A i
/-- A family of which the first `k` are done. -/
def two {n : ℕ} (D A : Fin n → sProp 𝕄) (k : ℕ) (i : Fin n) : sProp 𝕄 := if i.val < k then D i else A i
/-- The same without member `k`. -/
def three {n : ℕ} (D A : Fin n → sProp 𝕄) (k : ℕ) : Fin n → sProp 𝕄 := hole (two D A k) k

theorem hole_dig {n : ℕ} (A : Fin n → sProp 𝕄) (i : Fin n) : bigSep Finset.univ A ⊢ iprop(A i ∗ bigSep Finset.univ (hole A i.val)) := by
  refine (fam i A (hole A i.val) fun j hj => (if_neg fun e => hj (Fin.ext e)).symm).trans ?_
  rw [show hole A i.val i = iprop(emp) from if_pos rfl]
  iintro ⟨H, Hr⟩
  isplitl [H]; · iexact H
  iapply Hr; iempintro
theorem hole_fill {n : ℕ} (A : Fin n → sProp 𝕄) (i : Fin n) : iprop(bigSep Finset.univ (hole A i.val) ∗ A i) ⊢ bigSep Finset.univ A := by
  refine (sep_mono (fam i (hole A i.val) A fun j hj => if_neg fun e => hj (Fin.ext e)) .rfl).trans ?_
  iintro ⟨⟨-, Hr⟩, H⟩
  iapply Hr; iexact H
theorem hole_none {n : ℕ} (A : Fin n → sProp 𝕄) (k : ℕ) (h : n ≤ k) : hole A k = A := by
  funext i; exact if_neg (by omega)
theorem two_none {n : ℕ} (D A : Fin n → sProp 𝕄) : two D A 0 = A := by funext i; exact if_neg (by omega)
theorem two_all {n : ℕ} (D A : Fin n → sProp 𝕄) (k : ℕ) (h : n ≤ k) : two D A k = D := by funext i; exact if_pos (by omega)
theorem two_step {n : ℕ} (D A : Fin n → sProp 𝕄) (i : Fin n) : bigSep Finset.univ (two D A i.val)
    ⊢ iprop(A i ∗ (D i -∗ bigSep Finset.univ (two D A (i.val + 1)))) := by
  have := fam i (two D A i.val) (two D A (i.val + 1)) fun j hj => by
    have : j.val ≠ i.val := fun e => hj (Fin.ext e)
    unfold two
    by_cases hc : j.val < i.val
    · rw [if_pos hc, if_pos (by omega)]
    · rw [if_neg hc, if_neg (by omega)]
  rwa [show two D A i.val i = A i from if_neg (by omega), show two D A (i.val + 1) i = D i from if_pos (by omega)] at this
theorem three_dig {n : ℕ} (D A : Fin n → sProp 𝕄) (i : Fin n) (k : ℕ) (hk : i.val = k) : bigSep Finset.univ (two D A k)
    ⊢ iprop(A i ∗ bigSep Finset.univ (three D A k)) := by
  subst hk
  have := hole_dig (two D A i.val) i
  rwa [show two D A i.val i = A i from if_neg (by omega)] at this
theorem three_fill {n : ℕ} (D A : Fin n → sProp 𝕄) (i : Fin n) (k : ℕ) (hk : i.val = k) : iprop(bigSep Finset.univ (three D A k) ∗ D i)
    ⊢ bigSep Finset.univ (two D A (k + 1)) := by
  subst hk
  refine (sep_mono (fam i (three D A i.val) (two D A (i.val + 1)) fun j hj => by
    have : j.val ≠ i.val := fun e => hj (Fin.ext e)
    unfold three hole two
    rw [if_neg this]
    by_cases hc : j.val < i.val
    · rw [if_pos hc, if_pos (by omega)]
    · rw [if_neg hc, if_neg (by omega)]) .rfl).trans ?_
  rw [show two D A (i.val + 1) i = D i from if_pos (by omega)]
  iintro ⟨⟨-, Hr⟩, H⟩
  iapply Hr; iexact H

section
variable (I : Inp F) (K : GSem nD τ sig → ℕ) (c : Dev nD)

/-! ## The windows -/

/-- A chunk of the residual, as launched; a chunk of the result, done; and one at contents not chosen. -/
abbrev rW (j : Fin 16) : sProp 𝕄 := owns (c : Thread nD τ) (residW (chO j)) fullShare (rV I c j)
abbrev dW (j : Fin 16) : sProp 𝕄 := owns (c : Thread nD τ) (outW (chO j)) fullShare (oV I c j)
abbrev xW (j : Fin 16) : sProp 𝕄 := anyF (F := F) c (outW (chO j))

theorem oV_ne (j : Fin 16) (h : j ≠ ch (pos c)) : oV I c j = normF (cV I c j) (rV I c j) (I.gm c) := if_neg h
theorem cr_ne (h : Fin 8) : cr c (h.val + 1) ≠ ch (pos c) :=
  (by decide : ∀ (p : Fin 16) (h : Fin 8), ch (p.val + 16 - (h.val + 1)) ≠ ch p.val) ⟨pos c, pos_lt c⟩ h
theorem cl_ne (h : Fin 7) : cl c (h.val + 1) ≠ ch (pos c) :=
  (by decide : ∀ (p : Fin 16) (h : Fin 7), ch (p.val + (h.val + 1)) ≠ ch p.val) ⟨pos c, pos_lt c⟩ h

/-- The residual's windows, the way of the device before: `k` chunks have come in and the next is on its way. -/
def RSR (k : ℕ) : sProp 𝕄 :=
  iprop((if k < 8 then Fl c semRa NF iprop(owns (c : Thread nD τ) rbaM fullShare (rV I c (cr c (k + 1))) ∗ rW I c (cr c (k + 1)))
      else iprop(anyF c rbaM ∗ semVal (dmaC c semRa) 0))
    ∗ bigSep Finset.univ (hole (fun i : Fin 9 => rW I c (cr c i.val)) (k + 1)))
def RSL (k : ℕ) : sProp 𝕄 :=
  iprop((if k < 7 then Fl c semRb NF iprop(owns (c : Thread nD τ) rbbM fullShare (rV I c (cl c (k + 1))) ∗ rW I c (cl c (k + 1)))
      else iprop(anyF c rbbM ∗ semVal (dmaC c semRb) 0))
    ∗ bigSep Finset.univ (hole (fun h : Fin 7 => rW I c (cl c (h.val + 1))) k))
/-- The result's windows, the way of the device before: chunk `k` is on its way out. -/
def OSR (k : ℕ) : sProp 𝕄 :=
  iprop(Fl c semOa NO iprop(dW I c (cr c k) ∗ owns (c : Thread nD τ) obaM fullShare (oV I c (cr c k)))
    ∗ bigSep Finset.univ (three (fun i : Fin 9 => dW I c (cr c i.val)) (fun i => xW c (cr c i.val)) k))
def OSL : ℕ → sProp 𝕄
  | 0 => iprop((anyF c obbM ∗ semVal (dmaC c semOb) 0) ∗ bigSep Finset.univ (fun h : Fin 7 => xW (F := F) c (cl c (h.val + 1))))
  | k + 1 => iprop(Fl c semOb NO iprop(dW I c (cl c (k + 1)) ∗ owns (c : Thread nD τ) obbM fullShare (oV I c (cl c (k + 1))))
    ∗ bigSep Finset.univ (three (fun h : Fin 7 => dW I c (cl c (h.val + 1))) (fun h => xW c (cl c (h.val + 1))) k))
theorem OSL_succ (k : ℕ) : OSL I c (k + 1) = iprop(Fl c semOb NO iprop(dW I c (cl c (k + 1)) ∗ owns (c : Thread nD τ) obbM fullShare (oV I c (cl c (k + 1))))
    ∗ bigSep Finset.univ (three (fun h : Fin 7 => dW I c (cl c (h.val + 1))) (fun h => xW c (cl c (h.val + 1))) k)) := rfl

/-! ## The operations of a chunk -/

theorem wp_getC (o : Off) (b : Memref sig .tc .vmem S512x2048 .f32) (hb : b.IsWhole) (s : DmaSem sig) (hn : b.view.dmaCredit = NF)
    (X : FVec F S512x2048 .f32) (Q : PUnit → sProp 𝕄) :
    iprop(owns (c : Thread nD τ) (residW o) fullShare X ∗ anyF c b ∗ semVal (dmaC c s) 0)
      ⊢ iprop((Fl c s NF iprop(owns (c : Thread nD τ) b fullShare X ∗ owns (c : Thread nD τ) (residW o) fullShare X) -∗ Q ⟨⟩)
        -∗ WP c (getC (residW o) b hb s) Q) := by
  unfold getC
  exact wp_copy c (residW o) b s _ _ _ fullShare X NF hn NF_pos Q

theorem wp_putC (o : Off) (b : Memref sig .tc .vmem S512x2048 .f32) (hb : b.IsWhole) (s : DmaSem sig)
    (X : FVec F S512x2048 .f32) (Q : PUnit → sProp 𝕄) :
    iprop(owns (c : Thread nD τ) b fullShare X ∗ anyF c (outW o) ∗ semVal (dmaC c s) 0)
      ⊢ iprop((Fl c s NO iprop(owns (c : Thread nD τ) (outW o) fullShare X ∗ owns (c : Thread nD τ) b fullShare X) -∗ Q ⟨⟩)
        -∗ WP c (putC b hb (outW o) s) Q) := by
  unfold putC
  exact wp_copy c b (outW o) s _ _ _ fullShare X NO rfl NO_pos Q

theorem wp_gotC (o : Off) (b : Memref sig .tc .vmem S512x2048 .f32) (hb : b.IsWhole) (s : DmaSem sig) (hn : b.view.dmaCredit = NF) (hl : lvD s.val = 0)
    (D : sProp 𝕄) (O : Tal) (hO : Above 0 O) (Q : PUnit → sProp 𝕄) :
    iprop(Fl c s NF D ∗ ow c O ∗ levAts L lv)
      ⊢ iprop(((D ∗ semVal (dmaC c s) 0 ∗ ow c O) -∗ Q ⟨⟩) -∗ WP c (gotC (residW o) b hb s) Q) := by
  unfold gotC
  exact wp_copied c (residW o) b s _ _ NF hn D O hl hO Q

theorem wp_hasPut (o : Off) (b : Memref sig .tc .vmem S512x2048 .f32) (hb : b.IsWhole) (s : DmaSem sig) (hl : lvD s.val = 0)
    (D : sProp 𝕄) (O : Tal) (hO : Above 0 O) (Q : PUnit → sProp 𝕄) :
    iprop(Fl c s NO D ∗ ow c O ∗ levAts L lv)
      ⊢ iprop(((D ∗ semVal (dmaC c s) 0 ∗ ow c O) -∗ Q ⟨⟩) -∗ WP c (hasPut b hb (outW o) s) Q) := by
  unfold hasPut
  exact wp_copied c b (outW o) s _ _ NO rfl D O hl hO Q

theorem wp_finish (a : Vec F S512x2048 .bf16) (rb ob : Memref sig .tc .vmem S512x2048 .f32) (ho : ob.IsWhole) (o : Off) (s : DmaSem sig)
    (r : FVec F S512x2048 .f32) (g : FVec F S1x2048 .f32) (Q : PUnit → sProp 𝕄) :
    iprop(owns (c : Thread nD τ) rb fullShare r ∗ owns (c : Thread nD τ) gamM fullShare g ∗ anyF c ob ∗ anyF c (outW o) ∗ semVal (dmaC c s) 0)
      ⊢ iprop(((owns (c : Thread nD τ) rb fullShare r ∗ owns (c : Thread nD τ) gamM fullShare g
            ∗ Fl c s NO iprop(owns (c : Thread nD τ) (outW o) fullShare (normF a r g) ∗ owns (c : Thread nD τ) ob fullShare (normF a r g))) -∗ Q ⟨⟩)
        -∗ WP c (finish a rb ob ho o s) Q) := by
  unfold finish
  iintro ⟨Hr, Hg, ⟨%Y, Ho⟩, Hw, Hv⟩ Hk
  rw [WP_bind]
  iapply (wp_loadF c rb fullShare r) $$ Hr
  iintro Hr
  rw [WP_bind]
  iapply (wp_loadG c gamM fullShare g) $$ Hg
  iintro Hg
  rw [WP_bind]
  iapply (wp_loadF c ob fullShare Y) $$ Ho
  iintro Ho
  rw [WP_bind]
  unfold storeF
  iapply (wp_storeR c ob (normF a r g)) $$ [Ho]
  · iexists Y; iexact Ho
  iintro Ho
  iapply (wp_putC c o ob ho s (normF a r g)) $$ [Ho Hw Hv]
  · isplitl [Ho]; · iexact Ho
    isplitl [Hw]; · iexact Hw
    iexact Hv
  iintro Hf
  iapply Hk
  isplitl [Hr]; · iexact Hr
  isplitl [Hg]; · iexact Hg
  iexact Hf

/-! ## A hop's chunk -/

theorem wp_procR (h : Fin 8) (q : PosShare TreeShare) (O : Tal) (hO : Above 0 O) (Q : PUnit → sProp 𝕄) :
    iprop(levAts L lv ∗ ow c O ∗ RSR I c h.val ∗ OSR I c h.val ∗ owns (c : Thread nD τ) gamM fullShare (I.gm c)
        ∗ cW c q (cr c (h.val + 1)) (cV I c (cr c (h.val + 1))))
      ⊢ iprop(((ow c O ∗ RSR I c (h.val + 1) ∗ OSR I c (h.val + 1) ∗ owns (c : Thread nD τ) gamM fullShare (I.gm c)
          ∗ cW c q (cr c (h.val + 1)) (cV I c (cr c (h.val + 1)))) -∗ Q ⟨⟩)
        -∗ WP c (procR c h) Q) := by
  unfold procR RSR OSR
  rw [resR_eq, o8_eq, prvR_eq, o61_eq, o62_eq, if_pos h.isLt]
  iintro ⟨#HL, HO, ⟨Hra, Hrs⟩, ⟨Hoa, Hos⟩, Hg, Ha⟩ Hk
  rw [WP_bind]
  iapply (wp_gotC c (chO (cr c (h.val + 1))) rbaM (wh _) semRa rfl rfl _ O hO) $$ [Hra HO]
  · isplitl [Hra]; · iexact Hra
    isplitl [HO]; · iexact HO
    iexact HL
  iintro ⟨⟨Hr, Hw⟩, Hva, HO⟩
  rw [WP_bind]
  iapply (wp_loadW c (chO (cr c (h.val + 1))) q (cV I c (cr c (h.val + 1)))) $$ [Ha]
  · iexact Ha
  iintro Ha
  rw [WP_bind]
  iapply (wp_hasPut c (chO (cr c h.val)) obaM (wh _) semOa rfl _ O hO) $$ [Hoa HO]
  · isplitl [Hoa]; · iexact Hoa
    isplitl [HO]; · iexact HO
    iexact HL
  iintro ⟨⟨Hd, Hob⟩, Hvo, HO⟩
  ihave Hos := (three_fill (fun i : Fin 9 => dW I c (cr c i.val)) (fun i => xW c (cr c i.val)) h.castSucc h.val rfl) $$ [Hos Hd]
  · isplitl [Hos]; · iexact Hos
    iexact Hd
  ihave Hos := (three_dig (fun i : Fin 9 => dW I c (cr c i.val)) (fun i => xW c (cr c i.val)) h.succ (h.val + 1) rfl) $$ Hos
  icases Hos with ⟨Hx, Hos⟩
  rw [WP_bind]
  iapply (wp_finish c _ rbaM obaM _ (chO (cr c (h.val + 1))) semOa (rV I c (cr c (h.val + 1))) (I.gm c)) $$ [Hr Hg Hob Hx Hvo]
  · isplitl [Hr]; · iexact Hr
    isplitl [Hg]; · iexact Hg
    isplitl [Hob]; · iexists _; iexact Hob
    isplitl [Hx]; · iexact Hx
    iexact Hvo
  rw [← oV_ne I c _ (cr_ne c h)]
  iintro ⟨Hr, Hg, Hoa⟩
  ihave Hrs := (hole_fill (fun i : Fin 9 => rW I c (cr c i.val)) h.succ) $$ [Hrs Hw]
  · isplitl [Hrs]; · iexact Hrs
    iexact Hw
  by_cases hh : h.val < 7
  · rw [if_pos hh, if_pos (show h.val + 1 < 8 by omega)]
    ihave Hrs := (hole_dig (fun i : Fin 9 => rW I c (cr c i.val)) ⟨h.val + 2, by omega⟩) $$ Hrs
    icases Hrs with ⟨Hx, Hrs⟩
    iapply (wp_getC c (chO (cr c (h.val + 2))) rbaM _ semRa rfl (rV I c (cr c (h.val + 2)))) $$ [Hx Hr Hva]
    · isplitl [Hx]; · iexact Hx
      isplitl [Hr]; · iexists _; iexact Hr
      iexact Hva
    iintro Hf
    iapply Hk
    isplitl [HO]; · iexact HO
    isplitl [Hf Hrs]
    · isplitl [Hf]; · iexact Hf
      iexact Hrs
    isplitl [Hoa Hos]
    · isplitl [Hoa]; · iexact Hoa
      iexact Hos
    isplitl [Hg]; · iexact Hg
    iexact Ha
  · rw [if_neg hh, if_neg (show ¬ h.val + 1 < 8 by omega), hole_none _ _ (show 9 ≤ h.val + 1 + 1 by omega)]
    iapply (WP_pure c)
    iapply Hk
    isplitl [HO]; · iexact HO
    isplitl [Hr Hva Hrs]
    · isplitl [Hr Hva]
      · isplitl [Hr]; · iexists _; iexact Hr
        iexact Hva
      iexact Hrs
    isplitl [Hoa Hos]
    · isplitl [Hoa]; · iexact Hoa
      iexact Hos
    isplitl [Hg]; · iexact Hg
    iexact Ha

/-- The chunk's steps with the first one's choice made by itself. -/
theorem procL_eq (h : Fin 7) : procL (F := F) c h = (gotC (residW (resL c h)) rbbM (wh _) semRb >>= fun _ => loadW (o9 c h) >>= fun a =>
    (if 0 < h.val then hasPut obbM (wh _) (outW (prvL c h)) semOb else pure ⟨⟩) >>= fun _ =>
    finish a rbbM obbM (wh _) (o71 c h.castSucc) semOb >>= fun _ => if h.val < 6 then getC (residW (o72 c h.castSucc)) rbbM (wh _) semRb else pure ⟨⟩) := by
  unfold procL
  by_cases hp : 0 < h.val
  · simp only [if_pos hp]
  · simp only [if_neg hp]; rfl

theorem wp_procL (h : Fin 7) (q : PosShare TreeShare) (O : Tal) (hO : Above 0 O) (Q : PUnit → sProp 𝕄) :
    iprop(levAts L lv ∗ ow c O ∗ RSL I c h.val ∗ OSL I c h.val ∗ owns (c : Thread nD τ) gamM fullShare (I.gm c)
        ∗ cW c q (cl c (h.val + 1)) (cV I c (cl c (h.val + 1))))
      ⊢ iprop(((ow c O ∗ RSL I c (h.val + 1) ∗ OSL I c (h.val + 1) ∗ owns (c : Thread nD τ) gamM fullShare (I.gm c)
          ∗ cW c q (cl c (h.val + 1)) (cV I c (cl c (h.val + 1)))) -∗ Q ⟨⟩)
        -∗ WP c (procL c h) Q) := by
  have out : ∀ (R : PUnit → sProp 𝕄), iprop(levAts L lv ∗ ow c O ∗ OSL I c h.val)
      ⊢ iprop(((ow c O ∗ anyF c obbM ∗ semVal (dmaC c semOb) 0 ∗ xW c (cl c (h.val + 1))
          ∗ bigSep Finset.univ (three (fun h : Fin 7 => dW I c (cl c (h.val + 1))) (fun h => xW c (cl c (h.val + 1))) h.val)) -∗ R ⟨⟩)
        -∗ WP c (if 0 < h.val then hasPut obbM (wh _) (outW (chO (cl c h.val))) semOb else pure ⟨⟩) R) := by
    intro R
    obtain ⟨h, hl⟩ := h
    cases h with
    | zero =>
      rw [if_neg (Nat.lt_irrefl 0)]
      unfold OSL
      iintro ⟨-, HO, ⟨Hb, Hv⟩, Hx⟩ Hk
      iapply (WP_pure c)
      ihave Hx := (Entails.of_eq (congrArg (bigSep Finset.univ) (two_none (fun h : Fin 7 => dW I c (cl c (h.val + 1))) (fun h => xW c (cl c (h.val + 1)))).symm)) $$ Hx
      ihave Hx := (three_dig (fun h : Fin 7 => dW I c (cl c (h.val + 1))) (fun h => xW c (cl c (h.val + 1))) 0 0 rfl) $$ Hx
      icases Hx with ⟨Hx, Hos⟩
      iapply Hk
      isplitl [HO]; · iexact HO
      isplitl [Hb]; · iexact Hb
      isplitl [Hv]; · iexact Hv
      isplitl [Hx]; · iexact Hx
      iexact Hos
    | succ k =>
      rw [if_pos (Nat.succ_pos k)]
      unfold OSL
      iintro ⟨#HL, HO, Hf, Hos⟩ Hk
      iapply (wp_hasPut c (chO (cl c (k + 1))) obbM (wh _) semOb rfl _ O hO) $$ [Hf HO]
      · isplitl [Hf]; · iexact Hf
        isplitl [HO]; · iexact HO
        iexact HL
      iintro ⟨⟨Hd, Hb⟩, Hv, HO⟩
      ihave Hos := (three_fill (fun h : Fin 7 => dW I c (cl c (h.val + 1))) (fun h => xW c (cl c (h.val + 1))) ⟨k, by omega⟩ k rfl) $$ [Hos Hd]
      · isplitl [Hos]; · iexact Hos
        iexact Hd
      ihave Hx := (three_dig (fun h : Fin 7 => dW I c (cl c (h.val + 1))) (fun h => xW c (cl c (h.val + 1))) ⟨k + 1, hl⟩ (k + 1) rfl) $$ Hos
      icases Hx with ⟨Hx, Hos⟩
      iapply Hk
      isplitl [HO]; · iexact HO
      isplitl [Hb]; · iexists _; iexact Hb
      isplitl [Hv]; · iexact Hv
      isplitl [Hx]; · iexact Hx
      iexact Hos
  unfold RSL
  rw [OSL_succ, procL_eq, resL_eq, o9_eq, prvL_eq, o71_eq, o72_eq, if_pos h.isLt, Fin.val_castSucc]
  iintro ⟨#HL, HO, ⟨Hrb, Hrs⟩, Hos, Hg, Ha⟩ Hk
  rw [WP_bind]
  iapply (wp_gotC c (chO (cl c (h.val + 1))) rbbM (wh _) semRb rfl rfl _ O hO) $$ [Hrb HO]
  · isplitl [Hrb]; · iexact Hrb
    isplitl [HO]; · iexact HO
    iexact HL
  iintro ⟨⟨Hr, Hw⟩, Hvb, HO⟩
  rw [WP_bind]
  iapply (wp_loadW c (chO (cl c (h.val + 1))) q (cV I c (cl c (h.val + 1)))) $$ [Ha]
  · iexact Ha
  iintro Ha
  rw [WP_bind]
  iapply (out _) $$ [HO Hos]
  · isplitr; · iexact HL
    isplitl [HO]; · iexact HO
    iexact Hos
  iintro ⟨HO, Hob, Hvo, Hx, Hos⟩
  rw [WP_bind]
  iapply (wp_finish c _ rbbM obbM _ (chO (cl c (h.val + 1))) semOb (rV I c (cl c (h.val + 1))) (I.gm c)) $$ [Hr Hg Hob Hx Hvo]
  · isplitl [Hr]; · iexact Hr
    isplitl [Hg]; · iexact Hg
    isplitl [Hob]; · iexact Hob
    isplitl [Hx]; · iexact Hx
    iexact Hvo
  rw [← oV_ne I c _ (cl_ne c h)]
  iintro ⟨Hr, Hg, Hoa⟩
  ihave Hrs := (hole_fill (fun h : Fin 7 => rW I c (cl c (h.val + 1))) h) $$ [Hrs Hw]
  · isplitl [Hrs]; · iexact Hrs
    iexact Hw
  by_cases hh : h.val < 6
  · rw [if_pos hh, if_pos (show h.val + 1 < 7 by omega)]
    ihave Hrs := (hole_dig (fun h : Fin 7 => rW I c (cl c (h.val + 1))) ⟨h.val + 1, by omega⟩) $$ Hrs
    icases Hrs with ⟨Hx, Hrs⟩
    iapply (wp_getC c (chO (cl c (h.val + 2))) rbbM _ semRb rfl (rV I c (cl c (h.val + 2)))) $$ [Hx Hr Hvb]
    · isplitl [Hx]; · iexact Hx
      isplitl [Hr]; · iexists _; iexact Hr
      iexact Hvb
    iintro Hf
    iapply Hk
    isplitl [HO]; · iexact HO
    isplitl [Hf Hrs]
    · isplitl [Hf]; · iexact Hf
      iexact Hrs
    isplitl [Hoa Hos]
    · isplitl [Hoa]; · iexact Hoa
      iexact Hos
    isplitl [Hg]; · iexact Hg
    iexact Ha
  · rw [if_neg hh, if_neg (show ¬ h.val + 1 < 7 by omega), hole_none _ _ (show 7 ≤ h.val + 1 by omega)]
    iapply (WP_pure c)
    iapply Hk
    isplitl [HO]; · iexact HO
    isplitl [Hr Hvb Hrs]
    · isplitl [Hr Hvb]
      · isplitl [Hr]; · iexists _; iexact Hr
        iexact Hvb
      iexact Hrs
    isplitl [Hoa Hos]
    · isplitl [Hoa]; · iexact Hoa
      iexact Hos
    isplitl [Hg]; · iexact Hg
    iexact Ha

/-! ## The sends' completions -/

/-- The sends: waited for (their share of the chunk is back), or not yet. -/
def gR (h : Fin 8) : sProp 𝕄 := iprop(atPos ER (dmaC c (semSr h)) 1 ∅ 0 ∗ cW c qL (cr c h.val) (cV I c (cr c h.val)))
def gL (h : Fin 7) : sProp 𝕄 := iprop(atPos ER (dmaC c (semSl h)) 1 ∅ 0 ∗ cW c qR (cl c h.val) (cV I c (cl c h.val)))
def wR (h : Fin 8) : sProp 𝕄 := iprop(cred (tallyAt (dmaC c (semSr h)) () N) ∗ atPos ER (dmaC c (semSr h)) 0 ∅ 0)
def wL (h : Fin 7) : sProp 𝕄 := iprop(cred (tallyAt (dmaC c (semSl h)) () N) ∗ atPos ER (dmaC c (semSl h)) 0 ∅ 0)

theorem wp_sentR (h : Fin 8) (Q : PUnit → sProp 𝕄) :
    iprop(invs I K ∗ levAts L lv ∗ ow c 0 ∗ bigSep Finset.univ (two (gR I c) (wR c) h.val))
      ⊢ iprop(((ow c 0 ∗ bigSep Finset.univ (two (gR I c) (wR c) (h.val + 1))) -∗ Q ⟨⟩) -∗ WP c (waitW (o4 c h) (semSr h)) Q) := by
  unfold waitW
  rw [o4_eq]
  iintro ⟨#HI, #HL, HO, Hg⟩ Hk
  ihave Hg := (two_step (gR I c) (wR c) h) $$ Hg
  unfold wR
  icases Hg with ⟨⟨Hc, Hp⟩, Hg⟩
  iapply (wp_recvG I K c (commW (chO (cr c h.val))) (commW (chO (cr c h.val))) (semSr h) (talks_Sr h) (commW_exact _) (commW_exact _) (N_comm _)
    0 0 (le_of_eq (lv_Sr c h)) (above_zero _)) $$ [Hc Hp HO]
  · isplitr; · iexact HI
    isplitr; · iexact HL
    isplitl [Hc]; · iexact Hc
    isplitl [Hp]; · iexact Hp
    iexact HO
  rw [pay_Sr]
  iintro ⟨Hw, Hp, HO⟩
  iapply Hk
  isplitl [HO]; · iexact HO
  iapply Hg
  unfold gR
  isplitl [Hp]; · iexact Hp
  iexact Hw

theorem wp_sentL (h : Fin 7) (Q : PUnit → sProp 𝕄) :
    iprop(invs I K ∗ levAts L lv ∗ ow c 0 ∗ bigSep Finset.univ (two (gL I c) (wL c) h.val))
      ⊢ iprop(((ow c 0 ∗ bigSep Finset.univ (two (gL I c) (wL c) (h.val + 1))) -∗ Q ⟨⟩) -∗ WP c (waitW (o5 c h) (semSl h)) Q) := by
  unfold waitW
  rw [o5_eq]
  iintro ⟨#HI, #HL, HO, Hg⟩ Hk
  ihave Hg := (two_step (gL I c) (wL c) h) $$ Hg
  unfold wL
  icases Hg with ⟨⟨Hc, Hp⟩, Hg⟩
  iapply (wp_recvG I K c (commW (chO (cl c h.val))) (commW (chO (cl c h.val))) (semSl h) (talks_Sl h) (commW_exact _) (commW_exact _) (N_comm _)
    0 0 (le_of_eq (lv_Sl c h)) (above_zero _)) $$ [Hc Hp HO]
  · isplitr; · iexact HI
    isplitr; · iexact HL
    isplitl [Hc]; · iexact Hc
    isplitl [Hp]; · iexact Hp
    iexact HO
  rw [pay_Sl]
  iintro ⟨Hw, Hp, HO⟩
  iapply Hk
  isplitl [HO]; · iexact HO
  iapply Hg
  unfold gL
  isplitl [Hp]; · iexact Hp
  iexact Hw

/-- The completions of one hop's two sends. -/
theorem wp_drain1 (h : Fin 7) (Q : PUnit → sProp 𝕄) :
    iprop(invs I K ∗ levAts L lv ∗ ow c 0 ∗ bigSep Finset.univ (two (gR I c) (wR c) h.val) ∗ bigSep Finset.univ (two (gL I c) (wL c) h.val))
      ⊢ iprop(((ow c 0 ∗ bigSep Finset.univ (two (gR I c) (wR c) (h.val + 1)) ∗ bigSep Finset.univ (two (gL I c) (wL c) (h.val + 1))) -∗ Q ⟨⟩)
        -∗ WP c (drain1 c h) Q) := by
  unfold drain1
  iintro ⟨#HI, #HL, HO, HR, HG⟩ Hk
  rw [WP_bind]
  iapply (wp_sentR I K c h.castSucc) $$ [HO HR]
  · isplitr; · iexact HI
    isplitr; · iexact HL
    isplitl [HO]; · iexact HO
    iexact HR
  iintro ⟨HO, HR⟩
  iapply (wp_sentL I K c h) $$ [HO HG]
  · isplitr; · iexact HI
    isplitr; · iexact HL
    isplitl [HO]; · iexact HO
    iexact HG
  iintro ⟨HO, HG⟩
  iapply Hk
  isplitl [HO]; · iexact HO
  isplitl [HR]; · iexact HR
  iexact HG

/-- The last waits: everything is back. -/
theorem wp_finale (Q : PUnit → sProp 𝕄) :
    iprop(invs I K ∗ levAts L lv ∗ ow c 0 ∗ bigSep Finset.univ (two (gR I c) (wR c) 7) ∗ OSR I c 8 ∗ OSL I c 7)
      ⊢ iprop(((ow c 0 ∗ bigSep Finset.univ (gR I c) ∗ bigSep Finset.univ (fun i : Fin 9 => dW I c (cr c i.val))
          ∗ bigSep Finset.univ (fun h : Fin 7 => dW I c (cl c (h.val + 1))) ∗ anyF c obaM ∗ semVal (dmaC c semOa) 0
          ∗ anyF c obbM ∗ semVal (dmaC c semOb) 0) -∗ Q ⟨⟩) -∗ WP c (finale c) Q) := by
  unfold finale OSR OSL
  rw [o61_eq, o71_eq]
  iintro ⟨#HI, #HL, HO, HR, ⟨Hfa, HA⟩, ⟨Hfb, HB⟩⟩ Hk
  rw [WP_bind]
  iapply (wp_sentR I K c 7) $$ [HO HR]
  · isplitr; · iexact HI
    isplitr; · iexact HL
    isplitl [HO]; · iexact HO
    iexact HR
  iintro ⟨HO, HR⟩
  rw [WP_bind]
  iapply (wp_hasPut c (chO (cr c 8)) obaM (wh _) semOa rfl _ 0 (above_zero _)) $$ [Hfa HO]
  · isplitl [Hfa]; · iexact Hfa
    isplitl [HO]; · iexact HO
    iexact HL
  iintro ⟨⟨Hd, Hoa⟩, Hva, HO⟩
  ihave HA := (three_fill (fun i : Fin 9 => dW I c (cr c i.val)) (fun i => xW c (cr c i.val)) 8 8 rfl) $$ [HA Hd]
  · isplitl [HA]; · iexact HA
    iexact Hd
  iapply (wp_hasPut c (chO (cl c 7)) obbM (wh _) semOb rfl _ 0 (above_zero _)) $$ [Hfb HO]
  · isplitl [Hfb]; · iexact Hfb
    isplitl [HO]; · iexact HO
    iexact HL
  iintro ⟨⟨Hd, Hob⟩, Hvb, HO⟩
  ihave HB := (three_fill (fun h : Fin 7 => dW I c (cl c (h.val + 1))) (fun h => xW c (cl c (h.val + 1))) 6 6 rfl) $$ [HB Hd]
  · isplitl [HB]; · iexact HB
    iexact Hd
  iapply Hk
  isplitl [HO]; · iexact HO
  isplitl [HR]; · iapply (Entails.of_eq (congrArg (bigSep Finset.univ) (two_all (gR I c) (wR c) 8 le_rfl))); iexact HR
  isplitl [HA]; · iapply (Entails.of_eq (congrArg (bigSep Finset.univ) (two_all (fun i : Fin 9 => dW I c (cr c i.val)) (fun i => xW c (cr c i.val)) 9 le_rfl))); iexact HA
  isplitl [HB]; · iapply (Entails.of_eq (congrArg (bigSep Finset.univ) (two_all (fun h : Fin 7 => dW I c (cl c (h.val + 1))) (fun h => xW c (cl c (h.val + 1))) 7 le_rfl))); iexact HB
  isplitl [Hoa]; · iexists _; iexact Hoa
  isplitl [Hva]; · iexact Hva
  isplitl [Hob]; · iexists _; iexact Hob
  iexact Hvb

end

end Cert.Proof.Rms
-- ==== Proof.Begin.lean ====
/-
  The kernel's first part: the copies in, the barrier, the exchange between the planes, the first sends, and the own chunk of the result.
-/
module

public import proofs.«01_k».proof.Proof.Chunks

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section
variable (I : Inp F) (K : GSem nD τ sig → ℕ) (c : Dev nD)

/-- The own chunk's copy in flight, and the one of the residual's own chunk. -/
abbrev FlMy : sProp 𝕄 := Fl c semMy NF iprop(owns (c : Thread nD τ) mycM fullShare (I.pa c) ∗ owns (c : Thread nD τ) (partW c) fullShare (I.pa c))
abbrev FlRa : sProp 𝕄 := Fl c semRa NF iprop(owns (c : Thread nD τ) rbaM fullShare (rV I c (cr c 0)) ∗ rW I c (cr c 0))

/-- One neighbour's signal: its duty, and what goes with it. -/
def sgn (d : Dev nD) (u : Fin 3) : sProp 𝕄 := iprop(dutyTok ER (barC d) 0 u ∗ barPay (F := F) d u ∗ reached ER (barC d) 0)

theorem wp_begin1 (Q : PUnit → sProp 𝕄) :
    iprop(invs I K ∗ levAts L lv ∗ ow c (O₀ c) ∗ owns (c : Thread nD τ) (partW c) fullShare (I.pa c) ∗ anyF c mycM ∗ semVal (dmaC c semMy) 0
        ∗ rW I c (cr c 0) ∗ anyF c rbaM ∗ semVal (dmaC c semRa) 0 ∗ sgn (nbP c) 0 ∗ sgn (nbL c) 1 ∗ sgn (F := F) (nbR c) 2
        ∗ cred (tallyAt (barC c) () 3) ∗ atPos ER (barC c) 0 ∅ 0)
      ⊢ iprop(((ow c (OR c 0 + OL c 0 + OX c) ∗ FlMy I c ∗ FlRa I c ∗ barP c ∗ barR c ∗ barL (F := F) c ∗ atPos ER (barC c) 1 ∅ 0) -∗ Q ⟨⟩)
        -∗ WP c (begin1 c) Q) := by
  unfold begin1 sgn
  rw [o2_eq, ← cr_zero c]
  iintro ⟨#HI, #HL, HO, Hp, Hm, Hv, Hw, Hr, Hvr, ⟨Ht0, Hp0, Hr0⟩, ⟨Ht1, Hp1, Hr1⟩, ⟨Ht2, Hp2, Hr2⟩, Hc, Ha⟩ Hk
  rw [WP_bind]
  iapply (wp_copy c (partW c) mycM semMy ((View.wordExact_bits rfl).reshape _ _) (wh _).wordExact ⟨Or.inl rfl, trivial⟩ fullShare (I.pa c) NF rfl NF_pos) $$ [Hp Hm Hv]
  · isplitl [Hp]; · iexact Hp
    isplitl [Hm]; · iexact Hm
    iexact Hv
  iintro Hf
  rw [WP_bind]
  iapply (wp_getC c (chO (cr c 0)) rbaM (wh _) semRa rfl (rV I c (cr c 0))) $$ [Hw Hr Hvr]
  · isplitl [Hw]; · iexact Hw
    isplitl [Hr]; · iexact Hr
    iexact Hvr
  iintro Hg
  rw [WP_bind]
  iapply (wp_sig I K c (nbP c) 0 (OR c 0 + OL c 0 + OX c + OB c 2 + OB c 1) (O₀ c) rfl) $$ [HO Ht0 Hp0 Hr0]
  · isplitr; · iexact HI
    isplitl [HO]; · iexact HO
    isplitl [Ht0]; · iexact Ht0
    isplitl [Hp0]; · iexact Hp0
    iexact Hr0
  iintro HO
  rw [WP_bind]
  iapply (wp_sig I K c (nbL c) 1 (OR c 0 + OL c 0 + OX c + OB c 2) (OR c 0 + OL c 0 + OX c + OB c 2 + OB c 1) rfl) $$ [HO Ht1 Hp1 Hr1]
  · isplitr; · iexact HI
    isplitl [HO]; · iexact HO
    isplitl [Ht1]; · iexact Ht1
    isplitl [Hp1]; · iexact Hp1
    iexact Hr1
  iintro HO
  rw [WP_bind]
  iapply (wp_sig I K c (nbR c) 2 (OR c 0 + OL c 0 + OX c) (OR c 0 + OL c 0 + OX c + OB c 2) rfl) $$ [HO Ht2 Hp2 Hr2]
  · isplitr; · iexact HI
    isplitl [HO]; · iexact HO
    isplitl [Ht2]; · iexact Ht2
    isplitl [Hp2]; · iexact Hp2
    iexact Hr2
  iintro HO
  iapply (wp_bar I K c (OR c 0 + OL c 0 + OX c)
    (above_add (above_add (above_OR _ _ _ (by omega)) (above_OL _ _ _ (by omega))) (above_tally _ _ _ (by rw [lv_xr]; decide)))) $$ [HO Hc Ha]
  · isplitr; · iexact HI
    isplitr; · iexact HL
    isplitl [Hc]; · iexact Hc
    isplitl [Ha]; · iexact Ha
    iexact HO
  iintro ⟨HP, HR, HG, Ha, HO⟩
  iapply Hk
  isplitl [HO]; · iexact HO
  isplitl [Hf]; · iexact Hf
  isplitl [Hg]; · iexact Hg
  isplitl [HP]; · iexact HP
  isplitl [HR]; · iexact HR
  isplitl [HG]; · iexact HG
  iexact Ha

/-- The exchange between the planes: the own chunk goes over, the other plane's comes. -/
theorem wp_exch (O : Tal) (hO : Above 2 O) (Q : PUnit → sProp 𝕄) :
    iprop(invs I K ∗ levAts L lv ∗ ow c (O + OX c) ∗ owns (c : Thread nD τ) mybfM fullShare (k0_pay1 (I.pa c)) ∗ barP c
        ∗ dutyTok ER (dmaC c semXs) 0 (0 : Fin 3) ∗ reached ER (dmaC c semXs) 0 ∗ dutyTok ER (dmaC (nbP c) semXr) 0 (0 : Fin 3)
        ∗ atPos ER (dmaC c semXs) 0 ∅ 0 ∗ cred (tallyAt (dmaC c semXr) () N) ∗ atPos ER (dmaC c semXr) 0 ∅ 0)
      ⊢ iprop(((ow c O ∗ anyF c mybfM ∗ owns (c : Thread nD τ) prtM fullShare (k0_pay1 (I.pa (nbP c)))
          ∗ atPos ER (dmaC c semXs) 1 ∅ 0 ∗ atPos ER (dmaC c semXr) 1 ∅ 0) -∗ Q ⟨⟩)
        -∗ WP c (exch c) Q) := by
  have h0 : Above 0 O := fun s i h => ⟨(hO s i h).1, Nat.lt_of_le_of_lt (Nat.zero_le 2) (hO s i h).2⟩
  unfold exch barP
  iintro ⟨#HI, #HL, HO, Hm, ⟨Hp, Hrp⟩, Ht1, Hr1, Ht2, Hax, Hc, Har⟩ Hk
  rw [WP_bind]
  iapply (wp_sendG I K c ⟨k0_dev4 c, k0_dev4_lt c⟩ mybfM prtM semXs semXr talks_xs talks_xr (wh _).wordExact (wh _).wordExact ⟨⟨rfl, Or.inl rfl⟩, trivial⟩
    fullShare (k0_pay1 (I.pa c)) rfl O (O + OX c) (by rw [dev4_eq]; rfl)
    (by rw [pay_xs]; iintro H; iexists _; iexact H) (by rw [dev4_eq, pay_xr, nbP_nbP])) $$ [Hm Hp HO Ht1 Hr1 Ht2 Hrp]
  · isplitr; · iexact HI
    isplitl [Hm]; · iexact Hm
    isplitl [Hp]; · rw [dev4_eq]; iexact Hp
    isplitl [HO]; · iexact HO
    isplitl [Ht1]; · iexact Ht1
    isplitl [Hr1]; · iexact Hr1
    isplitl [Ht2]; · rw [dev4_eq]; iexact Ht2
    rw [dev4_eq]; iexact Hrp
  iintro ⟨Hcx, HO⟩
  rw [WP_bind]
  iapply (wp_recvG I K c prtM mybfM semXs talks_xs (wh _).wordExact (wh _).wordExact rfl 0 O (by decide) h0) $$ [Hcx Hax HO]
  · isplitr; · iexact HI
    isplitr; · iexact HL
    isplitl [Hcx]; · iexact Hcx
    isplitl [Hax]; · iexact Hax
    iexact HO
  rw [pay_xs]
  iintro ⟨Hm, Hax, HO⟩
  iapply (wp_recvG I K c mybfM prtM semXr talks_xr (wh _).wordExact (wh _).wordExact rfl 2 O (by decide) hO) $$ [Hc Har HO]
  · isplitr; · iexact HI
    isplitr; · iexact HL
    isplitl [Hc]; · iexact Hc
    isplitl [Har]; · iexact Har
    iexact HO
  rw [pay_xr]
  iintro ⟨Hp, Har, HO⟩
  iapply Hk
  isplitl [HO]; · iexact HO
  isplitl [Hm]; · iexact Hm
  isplitl [Hp]; · iexact Hp
  isplitl [Hax]; · iexact Hax
  iexact Har

theorem wp_begin2 (Q : FVec F S512x2048 .f32 → sProp 𝕄) :
    iprop(invs I K ∗ levAts L lv ∗ ow c (OR c 0 + OL c 0 + OX c) ∗ FlMy I c ∗ anyF c mybfM ∗ barP c
        ∗ dutyTok ER (dmaC c semXs) 0 (0 : Fin 3) ∗ reached ER (dmaC c semXs) 0 ∗ dutyTok ER (dmaC (nbP c) semXr) 0 (0 : Fin 3)
        ∗ atPos ER (dmaC c semXs) 0 ∅ 0 ∗ cred (tallyAt (dmaC c semXr) () N) ∗ atPos ER (dmaC c semXr) 0 ∅ 0
        ∗ anyF c (commW (chO (cr c 0))) ∗ bigSep Finset.univ (oR (F := F) c 0) ∗ bigSep Finset.univ (oL (F := F) c 0))
      ⊢ iprop(((ow c (OR c 1 + OL c 1) ∗ anyF c mycM ∗ owns (c : Thread nD τ) (partW c) fullShare (I.pa c) ∗ semVal (dmaC c semMy) 0
          ∗ anyF c mybfM ∗ anyF c prtM ∗ atPos ER (dmaC c semXs) 1 ∅ 0 ∗ atPos ER (dmaC c semXr) 1 ∅ 0
          ∗ bigSep Finset.univ (oR (F := F) c 1) ∗ bigSep Finset.univ (oL (F := F) c 1))
            -∗ Q (k0_pay2 (I.pa c) (k0_pay1 (I.pa (nbP c)))))
        -∗ WP c (begin2 c) Q) := by
  have ho : o3 c = chO (cr c 0) := (o3_eq c).trans (congrArg chO (cr_zero c).symm)
  unfold begin2
  iintro ⟨#HI, #HL, HO, Hf, ⟨%Y, Hm⟩, HP, Ht1, Hr1, Ht2, Hax, Hc, Har, ⟨%Z, Hw⟩, HR, HG⟩ Hk
  rw [WP_bind]
  iapply (wp_copied c (partW c) mycM semMy ((View.wordExact_bits rfl).reshape _ _) (wh _).wordExact NF rfl _ (OR c 0 + OL c 0 + OX c) rfl
    (above_add (above_add (above_OR _ _ _ (by omega)) (above_OL _ _ _ (by omega))) (above_tally _ _ _ (by rw [lv_xr]; decide)))) $$ [Hf HO]
  · isplitl [Hf]; · iexact Hf
    isplitl [HO]; · iexact HO
    iexact HL
  iintro ⟨⟨Hy, Hpt⟩, Hv, HO⟩
  rw [WP_bind]
  iapply (wp_loadF c mycM fullShare (I.pa c)) $$ Hy
  iintro Hy
  rw [WP_bind]
  iapply (wp_loadF c mybfM fullShare Y) $$ Hm
  iintro Hm
  rw [WP_bind]
  iapply (wp_storeR c mybfM (k0_pay1 (I.pa c))) $$ [Hm]
  · iexists Y; iexact Hm
  iintro Hm
  rw [WP_bind]
  iapply (wp_exch I K c (OR c 0 + OL c 0) (above_add (above_OR _ _ _ (by omega)) (above_OL _ _ _ (by omega)))) $$ [HO Hm HP Ht1 Hr1 Ht2 Hax Hc Har]
  · isplitr; · iexact HI
    isplitr; · iexact HL
    isplitl [HO]; · iexact HO
    isplitl [Hm]; · iexact Hm
    isplitl [HP]; · iexact HP
    isplitl [Ht1]; · iexact Ht1
    isplitl [Hr1]; · iexact Hr1
    isplitl [Ht2]; · iexact Ht2
    isplitl [Hax]; · iexact Hax
    isplitl [Hc]; · iexact Hc
    iexact Har
  iintro ⟨HO, Hm, Hp, Hax, Har⟩
  rw [WP_bind]
  iapply (wp_loadF c mycM fullShare (I.pa c)) $$ Hy
  iintro Hy
  rw [WP_bind]
  iapply (wp_loadF c prtM fullShare (k0_pay1 (I.pa (nbP c)))) $$ Hp
  iintro Hp
  rw [WP_bind]
  ihave Hw := (Entails.of_eq (show owns (c : Thread nD τ) (commW (chO (cr c 0))) fullShare Z = owns (c : Thread nD τ) (commW (o3 c)) fullShare Z from by rw [ho])) $$ Hw
  iapply (wp_loadW c (o3 c) fullShare Z) $$ Hw
  iintro Hw
  rw [WP_bind]
  iapply (wp_storeW c (o3 c) (k0_pay3 (I.pa c) (k0_pay1 (I.pa (nbP c))))) $$ [Hw]
  · iexists Z; iexact Hw
  iintro Hw
  ihave Hw := (Entails.of_eq (show owns (c : Thread nD τ) (commW (o3 c)) fullShare (k0_pay3 (I.pa c) (k0_pay1 (I.pa (nbP c))))
    = (cW c fullShare (cr c 0) (cV I c (cr c 0)) : sProp 𝕄) from by rw [ho, cr_zero, cV_own]; rfl)) $$ Hw
  ihave Hw := (cW_split c (cr c 0) _) $$ Hw
  icases Hw with ⟨Hw1, Hw2⟩
  ihave HR := (show bigSep Finset.univ (oR (F := F) c 0) ⊢ iprop(sndR c 0 ∗ (cred (tallyAt (dmaC c (semSr 0)) () N) -∗ bigSep Finset.univ (oR (F := F) c 1))) from oR_step c 0) $$ HR
  icases HR with ⟨Hs, HR⟩
  rw [WP_bind]
  iapply (wp_sendR I K c 0 (OL c 0)) $$ [Hw1 Hs HO]
  · isplitr; · iexact HI
    isplitl [Hw1]; · iexact Hw1
    isplitl [Hs]; · iexact Hs
    iexact HO
  iintro ⟨Hcr, HO⟩
  ihave HR := HR $$ Hcr
  ihave HG := (show bigSep Finset.univ (oL (F := F) c 0) ⊢ iprop(sndL c 0 ∗ (cred (tallyAt (dmaC c (semSl 0)) () N) -∗ bigSep Finset.univ (oL (F := F) c 1))) from oL_step c 0) $$ HG
  icases HG with ⟨Hs, HG⟩
  rw [WP_bind]
  ihave Hw2 := (Entails.of_eq (show (cW c qR (cr c 0) (cV I c (cr c 0)) : sProp 𝕄) = cW c qR (cl c 0) (cV I c (cl c 0)) from by rw [cr_zero, cl_zero])) $$ Hw2
  iapply (wp_sendL I K c 0 (OR c 1)) $$ [Hw2 Hs HO]
  · isplitr; · iexact HI
    isplitl [Hw2]; · iexact Hw2
    isplitl [Hs]; · iexact Hs
    iexact HO
  iintro ⟨Hcr, HO⟩
  ihave HG := HG $$ Hcr
  iapply (WP_pure c)
  iapply Hk
  isplitl [HO]; · iexact HO
  isplitl [Hy]; · iexists _; iexact Hy
  isplitl [Hpt]; · iexact Hpt
  isplitl [Hv]; · iexact Hv
  isplitl [Hm]; · iexact Hm
  isplitl [Hp]; · iexists _; iexact Hp
  isplitl [Hax]; · iexact Hax
  isplitl [Har]; · iexact Har
  isplitl [HR]; · iexact HR
  iexact HG

theorem wp_begin3 (O : Tal) (hO : Above 0 O) (Q : PUnit → sProp 𝕄) :
    iprop(levAts L lv ∗ ow c O ∗ FlRa I c ∗ owns (c : Thread nD τ) gamM fullShare (I.gm c) ∗ anyF c obaM ∗ semVal (dmaC c semOa) 0
        ∗ bigSep Finset.univ (hole (fun i : Fin 9 => rW I c (cr c i.val)) 0) ∗ bigSep Finset.univ (fun i : Fin 9 => xW (F := F) c (cr c i.val))
        ∗ anyF c rbbM ∗ semVal (dmaC c semRb) 0 ∗ bigSep Finset.univ (fun h : Fin 7 => rW I c (cl c (h.val + 1))))
      ⊢ iprop(((ow c O ∗ RSR I c 0 ∗ RSL I c 0 ∗ OSR I c 0 ∗ owns (c : Thread nD τ) gamM fullShare (I.gm c)) -∗ Q ⟨⟩)
        -∗ WP c (begin3 c (k0_pay2 (I.pa c) (k0_pay1 (I.pa (nbP c))))) Q) := by
  unfold begin3 FlRa RSR RSL OSR
  rw [o2_eq, ← cr_zero c, o4_eq, o5_eq, if_pos (by omega), if_pos (by omega)]
  iintro ⟨#HL, HO, Hf, Hg, ⟨%Y, Hb⟩, Hvo, Hrs, Hxs, Hrb, Hvb, Hls⟩ Hk
  rw [WP_bind]
  iapply (wp_gotC c (chO (cr c 0)) rbaM (wh _) semRa rfl rfl _ O hO) $$ [Hf HO]
  · isplitl [Hf]; · iexact Hf
    isplitl [HO]; · iexact HO
    iexact HL
  iintro ⟨⟨Hr, Hw⟩, Hva, HO⟩
  rw [WP_bind]
  iapply (wp_loadF c rbaM fullShare (rV I c (cr c 0))) $$ Hr
  iintro Hr
  rw [WP_bind]
  iapply (wp_loadG c gamM fullShare (I.gm c)) $$ Hg
  iintro Hg
  rw [WP_bind]
  iapply (wp_loadF c obaM fullShare Y) $$ Hb
  iintro Hb
  rw [WP_bind]
  unfold storeF
  iapply (wp_storeR c obaM (k0_pay5 (k0_pay4 (k0_pay2 (I.pa c) (k0_pay1 (I.pa (nbP c)))) (rV I c (cr c 0))) (I.gm c))) $$ [Hb]
  · iexists Y; iexact Hb
  rw [show k0_pay5 (k0_pay4 (k0_pay2 (I.pa c) (k0_pay1 (I.pa (nbP c)))) (rV I c (cr c 0))) (I.gm c) = oV I c (cr c 0) from by
    unfold oV; rw [if_pos (cr_zero c)]]
  iintro Hb
  ihave Hxs := (Entails.of_eq (congrArg (bigSep Finset.univ) (two_none (fun i : Fin 9 => dW I c (cr c i.val)) (fun i => xW c (cr c i.val))).symm)) $$ Hxs
  ihave Hxs := (three_dig (fun i : Fin 9 => dW I c (cr c i.val)) (fun i => xW c (cr c i.val)) 0 0 rfl) $$ Hxs
  icases Hxs with ⟨Hx, Hxs⟩
  rw [WP_bind]
  iapply (wp_putC c (chO (cr c 0)) obaM (wh _) semOa (oV I c (cr c 0))) $$ [Hb Hx Hvo]
  · isplitl [Hb]; · iexact Hb
    isplitl [Hx]; · iexact Hx
    iexact Hvo
  iintro Hfo
  ihave Hrs := (hole_fill (fun i : Fin 9 => rW I c (cr c i.val)) 0) $$ [Hrs Hw]
  · isplitl [Hrs]; · iexact Hrs
    iexact Hw
  ihave Hrs := (hole_dig (fun i : Fin 9 => rW I c (cr c i.val)) 1) $$ Hrs
  icases Hrs with ⟨Hx, Hrs⟩
  rw [WP_bind]
  iapply (wp_getC c (chO (cr c 1)) rbaM (wh _) semRa rfl (rV I c (cr c 1))) $$ [Hx Hr Hva]
  · isplitl [Hx]; · iexact Hx
    isplitl [Hr]; · iexists _; iexact Hr
    iexact Hva
  iintro Hfr
  ihave Hls := (hole_dig (fun h : Fin 7 => rW I c (cl c (h.val + 1))) 0) $$ Hls
  icases Hls with ⟨Hx, Hls⟩
  iapply (wp_getC c (chO (cl c 1)) rbbM (wh _) semRb rfl (rV I c (cl c 1))) $$ [Hx Hrb Hvb]
  · isplitl [Hx]; · iexact Hx
    isplitl [Hrb]; · iexact Hrb
    iexact Hvb
  iintro Hfl
  iapply Hk
  isplitl [HO]; · iexact HO
  isplitl [Hfr Hrs]
  · isplitl [Hfr]; · iexact Hfr
    iexact Hrs
  isplitl [Hfl Hls]
  · isplitl [Hfl]; · iexact Hfl
    iexact Hls
  isplitl [Hfo Hxs]
  · isplitl [Hfo]; · iexact Hfo
    iexact Hxs
  iexact Hg

end

end Cert.Proof.Rms
-- ==== Proof.Body.lean ====
/-
  The body as a whole: the seven hops, the last arrival, the completions, from what the launch gives a device to what it gives back.
-/
module

public import proofs.«01_k».proof.Proof.Begin

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over an initial segment -/

theorem bigSep_first {n : ℕ} (Φ : Fin (n + 1) → sProp 𝕄) : bigSep Finset.univ Φ = iprop(Φ 0 ∗ bigSep Finset.univ fun i : Fin n => Φ i.succ) := by
  have e : (Finset.univ.erase (0 : Fin (n + 1))) = Finset.univ.map (Fin.succEmb n) := by
    ext i; cases i using Fin.cases <;> simp
  rw [bigSep_univ_split (0 : Fin (n + 1)), e, bigSep_map]
  rfl
theorem bigSep_last {n : ℕ} (Φ : Fin (n + 1) → sProp 𝕄) :
    bigSep Finset.univ Φ = iprop(Φ (Fin.last n) ∗ bigSep Finset.univ fun i : Fin n => Φ i.castSucc) := by
  have e : (Finset.univ.erase (Fin.last n)) = Finset.univ.map Fin.castSuccEmb := by
    ext i; cases i using Fin.lastCases <;> simp
  rw [bigSep_univ_split (Fin.last n), e, bigSep_map]
  rfl
theorem bigSep_two {n : ℕ} (Φ Ψ : Fin n → sProp 𝕄) :
    iprop(bigSep Finset.univ Φ ∗ bigSep Finset.univ Ψ) = bigSep Finset.univ fun i => iprop(Φ i ∗ Ψ i) := (bigSep_sep _ _ _).symm

section
variable (I : Inp F) (K : GSem nD τ sig → ℕ) (c : Dev nD)

/-- The share kept of an arrived chunk. -/
abbrev kR (h : Fin 8) : sProp 𝕄 := cW c (kqR h) (cr c (h.val + 1)) (cV I c (cr c (h.val + 1)))
abbrev kL (h : Fin 7) : sProp 𝕄 := cW c (kqL h) (cl c (h.val + 1)) (cV I c (cl c (h.val + 1)))
abbrev none8 : Fin 8 → sProp 𝕄 := fun _ => iprop(emp)
abbrev none7 : Fin 7 → sProp 𝕄 := fun _ => iprop(emp)

/-- What a device holds before hop `k`. -/
def St (k : ℕ) : sProp 𝕄 :=
  iprop(ow c (OR c (k + 1) + OL c (k + 1)) ∗ bigSep Finset.univ (aR (F := F) c k) ∗ bigSep Finset.univ (oR (F := F) c (k + 1))
    ∗ bigSep Finset.univ (aL (F := F) c k) ∗ bigSep Finset.univ (oL (F := F) c (k + 1))
    ∗ bigSep Finset.univ (two (kR I c) none8 k) ∗ bigSep Finset.univ (two (kL I c) none7 k)
    ∗ RSR I c k ∗ RSL I c k ∗ OSR I c k ∗ OSL I c k ∗ owns (c : Thread nD τ) gamM fullShare (I.gm c))

theorem keep {n : ℕ} (D : Fin n → sProp 𝕄) (i : Fin n) (k : ℕ) (hk : i.val = k) :
    iprop(bigSep Finset.univ (two D (fun _ => iprop(emp)) k) ∗ D i) ⊢ bigSep Finset.univ (two D (fun _ => iprop(emp)) (k + 1)) := by
  subst hk
  refine (sep_mono (two_step D (fun _ => iprop(emp)) i) .rfl).trans ?_
  iintro ⟨⟨-, H⟩, HD⟩
  iapply H; iexact HD

theorem wp_hop (h : Fin 7) (k : ℕ) (hk : h.val = k) (Q : PUnit → sProp 𝕄) :
    iprop(invs I K ∗ levAts L lv ∗ St I c k) ⊢ iprop((St I c (k + 1) -∗ Q ⟨⟩) -∗ WP c (hop c h) Q) := by
  subst hk
  have rR := fun Q => wp_recvR I K c h.castSucc (h.val + 1) (by simp) Q
  have rL := fun Q => wp_recvL I K c h (h.val + 2) (by omega) Q
  have pR := fun Q => wp_procR I c h.castSucc (kqR h.castSucc) (OR c (h.val + 2) + OL c (h.val + 2)) (above_add (above_OR _ _ _ (by omega)) (above_OL _ _ _ (by omega))) Q
  have pL := fun Q => wp_procL I c h (kqL h) (OR c (h.val + 2) + OL c (h.val + 2)) (above_add (above_OR _ _ _ (by omega)) (above_OL _ _ _ (by omega))) Q
  have kr := keep (kR I c) h.castSucc h.val rfl
  simp only [Fin.val_castSucc] at rR pR kr
  unfold hop St
  iintro ⟨#HI, #HL, HO, HaR, HoR, HaL, HoL, HkR, HkL, HrR, HrL, HwR, HwL, Hg⟩ Hk
  rw [WP_bind]
  iapply (rR _) $$ [HaR HoR HO]
  · isplitr; · iexact HI
    isplitr; · iexact HL
    isplitl [HaR]; · iexact HaR
    isplitl [HoR]; · iexact HoR
    iexact HO
  iintro ⟨HaR, HoR, HcR, HO⟩
  rw [WP_bind]
  iapply (rL _) $$ [HaL HoL HO]
  · isplitr; · iexact HI
    isplitr; · iexact HL
    isplitl [HaL]; · iexact HaL
    isplitl [HoL]; · iexact HoL
    iexact HO
  iintro ⟨HaL, HoL, HcL, HO⟩
  rw [WP_bind]
  iapply (pR _) $$ [HO HrR HwR Hg HcR]
  · isplitr; · iexact HL
    isplitl [HO]; · iexact HO
    isplitl [HrR]; · iexact HrR
    isplitl [HwR]; · iexact HwR
    isplitl [Hg]; · iexact Hg
    iexact HcR
  iintro ⟨HO, HrR, HwR, Hg, HcR⟩
  iapply (pL _) $$ [HO HrL HwL Hg HcL]
  · isplitr; · iexact HL
    isplitl [HO]; · iexact HO
    isplitl [HrL]; · iexact HrL
    isplitl [HwL]; · iexact HwL
    isplitl [Hg]; · iexact Hg
    iexact HcL
  iintro ⟨HO, HrL, HwL, Hg, HcL⟩
  iapply Hk
  isplitl [HO]; · iexact HO
  isplitl [HaR]; · iexact HaR
  isplitl [HoR]; · iexact HoR
  isplitl [HaL]; · iexact HaL
  isplitl [HoL]; · iexact HoL
  isplitl [HkR HcR]
  · iapply kr
    isplitl [HkR]; · iexact HkR
    iexact HcR
  isplitl [HkL HcL]
  · iapply (keep (kL I c) h h.val rfl)
    isplitl [HkL]; · iexact HkL
    iexact HcL
  isplitl [HrR]; · iexact HrR
  isplitl [HrL]; · iexact HrL
  isplitl [HwR]; · iexact HwR
  isplitl [HwL]; · iexact HwL
  iexact Hg

/-- What a device holds after the last hop, every wait done. -/
def Fin' : sProp 𝕄 :=
  iprop(ow c 0 ∗ bigSep Finset.univ (fun h => atPos ER (dmaC c (semRr h)) 1 ∅ 0) ∗ bigSep Finset.univ (fun h => atPos ER (dmaC c (semRl h)) 1 ∅ 0)
    ∗ bigSep Finset.univ (gR I c) ∗ bigSep Finset.univ (gL I c) ∗ bigSep Finset.univ (kR I c) ∗ bigSep Finset.univ (kL I c)
    ∗ RSR I c 8 ∗ RSL I c 7 ∗ bigSep Finset.univ (fun i : Fin 9 => dW I c (cr c i.val)) ∗ bigSep Finset.univ (fun h : Fin 7 => dW I c (cl c (h.val + 1)))
    ∗ anyF c obaM ∗ semVal (dmaC c semOa) 0 ∗ anyF c obbM ∗ semVal (dmaC c semOb) 0 ∗ owns (c : Thread nD τ) gamM fullShare (I.gm c))

theorem wp_after (Q : PUnit → sProp 𝕄) :
    iprop(invs I K ∗ levAts L lv ∗ St I c 0 ∗ bigSep Finset.univ (fun h : Fin 8 => atPos ER (dmaC c (semSr h)) 0 ∅ 0)
        ∗ bigSep Finset.univ (fun h : Fin 7 => atPos ER (dmaC c (semSl h)) 0 ∅ 0))
      ⊢ iprop((Fin' I c -∗ Q ⟨⟩) -∗ WP c (after c) Q) := by
  have e0 : OR c 9 + OL c 8 = 0 := by rw [OR_end c 9 (by omega), OL_end c 8 (by omega), add_zero]
  have rR := fun Q => wp_recvR I K c 7 8 (by decide) Q
  have pR := fun Q => wp_procR I c 7 (kqR 7) 0 (above_zero _) Q
  have kr := keep (kR I c) 7 7 rfl
  simp only [show (7 : Fin 8).val = 7 from rfl, Nat.reduceAdd] at rR pR kr
  rw [e0] at rR
  unfold after
  iintro ⟨#HI, #HL, H, HpR, HpL⟩ Hk
  rw [WP_bind]
  iapply (wp_hop I K c 0 0 rfl) $$ [H]
  · isplitr; · iexact HI
    isplitr; · iexact HL
    iexact H
  iintro H
  rw [WP_bind]
  iapply (wp_hop I K c 1 1 rfl) $$ [H]
  · isplitr; · iexact HI
    isplitr; · iexact HL
    iexact H
  iintro H
  rw [WP_bind]
  iapply (wp_hop I K c 2 2 rfl) $$ [H]
  · isplitr; · iexact HI
    isplitr; · iexact HL
    iexact H
  iintro H
  rw [WP_bind]
  iapply (wp_hop I K c 3 3 rfl) $$ [H]
  · isplitr; · iexact HI
    isplitr; · iexact HL
    iexact H
  iintro H
  rw [WP_bind]
  iapply (wp_hop I K c 4 4 rfl) $$ [H]
  · isplitr; · iexact HI
    isplitr; · iexact HL
    iexact H
  iintro H
  rw [WP_bind]
  iapply (wp_hop I K c 5 5 rfl) $$ [H]
  · isplitr; · iexact HI
    isplitr; · iexact HL
    iexact H
  iintro H
  rw [WP_bind]
  iapply (wp_hop I K c 6 6 rfl) $$ [H]
  · isplitr; · iexact HI
    isplitr; · iexact HL
    iexact H
  iintro H
  ihave H := (show St I c (6 + 1) ⊢ iprop(ow c (OR c 8 + OL c 8) ∗ bigSep Finset.univ (aR (F := F) c 7) ∗ bigSep Finset.univ (oR (F := F) c 8)
    ∗ bigSep Finset.univ (aL (F := F) c 7) ∗ bigSep Finset.univ (oL (F := F) c 8)
    ∗ bigSep Finset.univ (two (kR I c) none8 7) ∗ bigSep Finset.univ (two (kL I c) none7 7)
    ∗ RSR I c 7 ∗ RSL I c 7 ∗ OSR I c 7 ∗ OSL I c 7 ∗ owns (c : Thread nD τ) gamM fullShare (I.gm c)) from .rfl) $$ H
  icases H with ⟨HO, HaR, HoR, HaL, HoL, HkR, HkL, HrR, HrL, HwR, HwL, Hg⟩
  rw [WP_bind]
  iapply (rR _) $$ [HaR HoR HO]
  · isplitr; · iexact HI
    isplitr; · iexact HL
    isplitl [HaR]; · iexact HaR
    isplitl [HoR]; · iexact HoR
    iexact HO
  iintro ⟨HaR, HoR, HcR, HO⟩
  rw [WP_bind]
  iapply (pR _) $$ [HO HrR HwR Hg HcR]
  · isplitr; · iexact HL
    isplitl [HO]; · iexact HO
    isplitl [HrR]; · iexact HrR
    isplitl [HwR]; · iexact HwR
    isplitl [Hg]; · iexact Hg
    iexact HcR
  iintro ⟨HO, HrR, HwR, Hg, HcR⟩
  ihave HkR := kr $$ [HkR HcR]
  · isplitl [HkR]; · iexact HkR
    iexact HcR
  ihave HR := (Entails.of_eq (show iprop(bigSep Finset.univ (oR (F := F) c 9) ∗ bigSep Finset.univ (fun h : Fin 8 => atPos ER (dmaC c (semSr h)) 0 ∅ 0))
      = bigSep Finset.univ (two (gR I c) (wR c) 0) from by
    rw [two_none, bigSep_two]
    exact bigSep_congr fun j _ => by unfold oR wR; rw [if_pos (by omega)])) $$ [HoR HpR]
  · isplitl [HoR]; · iexact HoR
    iexact HpR
  ihave HG := (Entails.of_eq (show iprop(bigSep Finset.univ (oL (F := F) c 8) ∗ bigSep Finset.univ (fun h : Fin 7 => atPos ER (dmaC c (semSl h)) 0 ∅ 0))
      = bigSep Finset.univ (two (gL I c) (wL c) 0) from by
    rw [two_none, bigSep_two]
    exact bigSep_congr fun j _ => by unfold oL wL; rw [if_pos (by omega)])) $$ [HoL HpL]
  · isplitl [HoL]; · iexact HoL
    iexact HpL
  have dr : ∀ (h : Fin 7) (k : ℕ) (hk : h.val = k) (Q : PUnit → sProp 𝕄),
    iprop(invs I K ∗ levAts L lv ∗ ow c 0 ∗ bigSep Finset.univ (two (gR I c) (wR c) k) ∗ bigSep Finset.univ (two (gL I c) (wL c) k))
      ⊢ iprop(((ow c 0 ∗ bigSep Finset.univ (two (gR I c) (wR c) (k + 1)) ∗ bigSep Finset.univ (two (gL I c) (wL c) (k + 1))) -∗ Q ⟨⟩)
        -∗ WP c (drain1 c h) Q) := fun h k hk Q => by subst hk; exact wp_drain1 I K c h Q
  rw [WP_bind]
  iapply (dr 0 0 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 1 1 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 2 2 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 3 3 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 4 4 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 5 5 rfl _) $$ [HO HR HG]
  · isplitr; · iexact HI
    isplitr; · iexact HL
    isplitl [HO]; · iexact HO
    isplitl [HR]; · iexact HR
    iexact HG
  iintro ⟨HO, HR, HG⟩
  rw [WP_bind]
  iapply (dr 6 6 rfl _) $$ [HO HR HG]
  · isplitr; · iexact HI
    isplitr; · iexact HL
    isplitl [HO]; · iexact HO
    isplitl [HR]; · iexact HR
    iexact HG
  iintro ⟨HO, HR, HG⟩
  iapply (wp_finale I K c) $$ [HO HR HwR HwL]
  · isplitr; · iexact HI
    isplitr; · iexact HL
    isplitl [HO]; · iexact HO
    isplitl [HR]; · iexact HR
    isplitl [HwR]; · iexact HwR
    iexact HwL
  iintro ⟨HO, HR, HwR, HwL, Hoa, Hva, Hob, Hvb⟩
  iapply Hk
  unfold Fin'
  isplitl [HO]; · iexact HO
  isplitl [HaR]
  · iapply (fam_same (aR (F := F) c 8) _ fun j => if_pos (by omega)); iexact HaR
  isplitl [HaL]
  · iapply (fam_same (aL (F := F) c 7) _ fun j => if_pos (by omega)); iexact HaL
  isplitl [HR]; · iexact HR
  isplitl [HG]; · iapply (Entails.of_eq (congrArg (bigSep Finset.univ) (two_all (gL I c) (wL c) 7 le_rfl))); iexact HG
  isplitl [HkR]; · iapply (Entails.of_eq (congrArg (bigSep Finset.univ) (two_all (kR I c) none8 8 le_rfl))); iexact HkR
  isplitl [HkL]; · iapply (Entails.of_eq (congrArg (bigSep Finset.univ) (two_all (kL I c) none7 7 le_rfl))); iexact HkL
  isplitl [HrR]; · iexact HrR
  isplitl [HrL]; · iexact HrL
  isplitl [HwR]; · iexact HwR
  isplitl [HwL]; · iexact HwL
  isplitl [Hoa]; · iexact Hoa
  isplitl [Hva]; · iexact Hva
  isplitl [Hob]; · iexact Hob
  isplitl [Hvb]; · iexact Hvb
  iexact Hg

end

end Cert.Proof.Rms
-- ==== Proof.Run.lean ====
/-
  The body's run on one device: from its buffers and its share of the protocol, back to the buffers with the result written.
-/
module

public import proofs.«01_k».proof.Proof.Body

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The sixteen chunks by the way they come -/

/-- Chunk by distance: up to eight behind, up to seven ahead. -/
def chunkOf (c : Dev nD) : Fin 9 ⊕ Fin 7 → Fin 16 := Sum.elim (fun i => cr c i.val) fun h => cl c (h.val + 1)
theorem chunkOf_inj (c : Dev nD) : Function.Injective (chunkOf c) := by
  have h : ∀ (p : Fin 16) (a b : Fin 9 ⊕ Fin 7),
      Sum.elim (fun i : Fin 9 => ch (p.val + 16 - i.val)) (fun h : Fin 7 => ch (p.val + (h.val + 1))) a
        = Sum.elim (fun i : Fin 9 => ch (p.val + 16 - i.val)) (fun h : Fin 7 => ch (p.val + (h.val + 1))) b → a = b := by decide +kernel
  exact fun a b e => h ⟨pos c, pos_lt c⟩ a b e
def chunkEquiv (c : Dev nD) : Fin 9 ⊕ Fin 7 ≃ Fin 16 :=
  Equiv.ofBijective (chunkOf c) ((Fintype.bijective_iff_injective_and_card _).mpr ⟨chunkOf_inj c, by simp⟩)

theorem chunks (c : Dev nD) (Φ : Fin 16 → sProp 𝕄) : bigSep Finset.univ Φ
    = iprop((bigSep Finset.univ fun i : Fin 9 => Φ (cr c i.val)) ∗ bigSep Finset.univ fun h : Fin 7 => Φ (cl c (h.val + 1))) := by
  rw [bigSep_univ_equiv (chunkEquiv c) Φ, bigSep_univ_sum]
  rfl

section
variable (I : Inp F) (K : GSem nD τ sig → ℕ) (c : Dev nD)

/-! ## What a device starts with, and ends with -/

/-- One thing for each semaphore of the exchange and of the ring. -/
def cells (Φ : DmaSem sig → sProp 𝕄) : sProp 𝕄 :=
  iprop(Φ semXs ∗ Φ semXr ∗ (bigSep Finset.univ fun h => Φ (semSr h)) ∗ (bigSep Finset.univ fun h => Φ (semRr h))
    ∗ (bigSep Finset.univ fun h => Φ (semSl h)) ∗ bigSep Finset.univ fun h => Φ (semRl h))

/-- The duties a device pays: the three neighbours' signals, its sends' completions, its receivers' arrivals. -/
def Tok : sProp 𝕄 :=
  iprop(dutyTok ER (barC (nbP c)) 0 (0 : Fin 3) ∗ dutyTok ER (barC (nbL c)) 0 (1 : Fin 3) ∗ dutyTok ER (barC (nbR c)) 0 (2 : Fin 3)
    ∗ dutyTok ER (dmaC c semXs) 0 (0 : Fin 3) ∗ dutyTok ER (dmaC (nbP c) semXr) 0 (0 : Fin 3)
    ∗ (bigSep Finset.univ fun h => dutyTok ER (dmaC c (semSr h)) 0 (0 : Fin 3)) ∗ (bigSep Finset.univ fun h => dutyTok ER (dmaC (nbR c) (semRr h)) 0 (0 : Fin 3))
    ∗ (bigSep Finset.univ fun h => dutyTok ER (dmaC c (semSl h)) 0 (0 : Fin 3)) ∗ bigSep Finset.univ fun h => dutyTok ER (dmaC (nbL c) (semRl h)) 0 (0 : Fin 3))
/-- The units it waits for. -/
def Crd : sProp 𝕄 :=
  iprop(cred (tallyAt (barC c) () 3) ∗ cred (tallyAt (dmaC c semXr) () N) ∗ (bigSep Finset.univ fun h => cred (tallyAt (dmaC c (semRr h)) () N))
    ∗ bigSep Finset.univ fun h => cred (tallyAt (dmaC c (semRl h)) () N))
/-- The neighbours' barriers are at their first round. -/
def Nbs : sProp 𝕄 := iprop(reached ER (barC (nbP c)) 0 ∗ reached ER (barC (nbL c)) 0 ∗ reached ER (barC (nbR c)) 0)

/-- The buffers, the windows of the result as `W` says. -/
def Bufs (W : Fin 16 → sProp 𝕄) : sProp 𝕄 :=
  iprop(owns (c : Thread nD τ) (partW c) fullShare (I.pa c) ∗ bigSep Finset.univ (rW I c) ∗ bigSep Finset.univ W ∗ bigSep Finset.univ (cWany (F := F) c)
    ∗ owns (c : Thread nD τ) gamM fullShare (I.gm c)
    ∗ anyF c mycM ∗ anyF c mybfM ∗ anyF c prtM ∗ anyF c rbaM ∗ anyF c rbbM ∗ anyF c obaM ∗ anyF c obbM
    ∗ semVal (dmaC c semMy) 0 ∗ semVal (dmaC c semRa) 0 ∗ semVal (dmaC c semRb) 0 ∗ semVal (dmaC c semOa) 0 ∗ semVal (dmaC c semOb) 0)

/-! ## The chunks' shares, back together -/

theorem halves_join {ℓ : Loc nD τ sig} (S : Finset (Idx ℓ)) (f g : Buf (Elt F) ℓ) :
    iprop((ℓ ↦[S]{qL} f) ∗ ℓ ↦[S]{qR} g) ⊢ (ℓ ↦[S]{fullShare} f : sProp 𝕄) := by
  refine Laws.pure_elim _ pointsTo_agree fun h => ?_
  rw [show (ℓ ↦[S]{qR} g : sProp 𝕄) = ℓ ↦[S]{qR} f from pointsTo_congr fun i hi => ((h i (Finset.mem_inter.mpr ⟨hi, hi⟩)).1).symm]
  exact (pointsTo_share (PosShare.mem_left_op_right fullShare)).2

theorem cW_join (j : Fin 16) (X : FVec F S512x2048 .bf16) : iprop(cW c qL j X ∗ cW c qR j X) ⊢ (cWany c j : sProp 𝕄) := by
  unfold cWany cW owns
  iintro ⟨⟨%f, %hf, H1⟩, ⟨%g, %hg, H2⟩⟩
  ihave H := (halves_join (ℓ := (commW (chO j)).view.loc (c : Thread nD τ)) (commW (chO j)).view.set f g) $$ [H1 H2]
  · isplitl [H1]; · iexact H1
    iexact H2
  iexists X; iexists f
  isplitr; · ipureintro; exact hf
  iexact H

theorem cW_any (j : Fin 16) (X : FVec F S512x2048 .bf16) : (cW c fullShare j X : sProp 𝕄) ⊢ cWany c j := by
  unfold cWany cW
  iintro H
  iexists X; iexact H

/-- Every chunk of the sums is whole again. -/
theorem shares : iprop(bigSep Finset.univ (gR I c) ∗ bigSep Finset.univ (gL I c) ∗ bigSep Finset.univ (kR I c) ∗ bigSep Finset.univ (kL I c))
    ⊢ iprop(bigSep Finset.univ (fun h => atPos ER (dmaC c (semSr h)) 1 ∅ 0) ∗ bigSep Finset.univ (fun h => atPos ER (dmaC c (semSl h)) 1 ∅ 0)
      ∗ bigSep Finset.univ (cWany (F := F) c)) := by
  have eR : bigSep Finset.univ (gR I c) = iprop((bigSep Finset.univ fun h => atPos ER (dmaC c (semSr h)) 1 ∅ 0)
      ∗ bigSep Finset.univ fun h : Fin 8 => cW c qL (cr c h.val) (cV I c (cr c h.val))) := bigSep_sep _ _ _
  have eL : bigSep Finset.univ (gL I c) = iprop((bigSep Finset.univ fun h => atPos ER (dmaC c (semSl h)) 1 ∅ 0)
      ∗ bigSep Finset.univ fun h : Fin 7 => cW c qR (cl c h.val) (cV I c (cl c h.val))) := bigSep_sep _ _ _
  have jR : iprop((bigSep Finset.univ fun h : Fin 7 => cW c qL (cr c (h.val + 1)) (cV I c (cr c (h.val + 1)))) ∗ bigSep Finset.univ fun h : Fin 7 => kR I c h.castSucc)
      ⊢ bigSep Finset.univ fun h : Fin 7 => cWany (F := F) c (cr c (h.val + 1)) := by
    rw [bigSep_two]
    exact bigSep_mono fun h _ => by
      rw [show kR I c h.castSucc = cW c qR (cr c (h.val + 1)) (cV I c (cr c (h.val + 1))) from by unfold kR kqR; rw [if_pos (show h.castSucc.val < 7 from h.isLt)]; rfl]
      exact cW_join c _ _
  have jL : iprop((bigSep Finset.univ fun h : Fin 6 => cW c qR (cl c (h.val + 1)) (cV I c (cl c (h.val + 1)))) ∗ bigSep Finset.univ fun h : Fin 6 => kL I c h.castSucc)
      ⊢ bigSep Finset.univ fun h : Fin 6 => cWany (F := F) c (cl c (h.val + 1)) := by
    rw [bigSep_two]
    exact bigSep_mono fun h _ => by
      rw [show kL I c h.castSucc = cW c qL (cl c (h.val + 1)) (cV I c (cl c (h.val + 1))) from by unfold kL kqL; rw [if_pos (show h.castSucc.val < 6 from h.isLt)]; rfl]
      refine BIBase.Entails.trans ?_ (cW_join c _ (cV I c (cl c (h.val + 1))))
      iintro ⟨H1, H2⟩
      isplitl [H2]; · iexact H2
      iexact H1
  rw [eR, eL, chunks c, bigSep_first (fun h : Fin 8 => cW c qL (cr c h.val) (cV I c (cr c h.val))), bigSep_first (fun h : Fin 7 => cW c qR (cl c h.val) (cV I c (cl c h.val))),
    bigSep_last (kR I c), bigSep_last (kL I c), bigSep_first (fun i : Fin 9 => cWany (F := F) c (cr c i.val)),
    bigSep_last (fun i : Fin 8 => cWany (F := F) c (cr c i.succ.val)), bigSep_last (fun h : Fin 7 => cWany (F := F) c (cl c (h.val + 1)))]
  iintro ⟨⟨HpR, Hr0, HrR⟩, ⟨HpL, Hl0, HlL⟩, ⟨HkR8, HkR⟩, HkL7, HkL⟩
  isplitl [HpR]; · iexact HpR
  isplitl [HpL]; · iexact HpL
  isplitl [Hr0 Hl0 HrR HkR HkR8]
  · isplitl [Hr0 Hl0]
    · iapply (cW_join c (cr c 0) (cV I c (cr c 0)))
      isplitl [Hr0]; · iexact Hr0
      rw [cr_zero, ← cl_zero]; iexact Hl0
    isplitl [HkR8]
    · iapply (cW_any c (cr c 8) (cV I c (cr c 8))); iexact HkR8
    iapply jR
    isplitl [HrR]; · iexact HrR
    iexact HkR
  · isplitl [HkL7]
    · iapply (cW_any c (cl c 7) (cV I c (cl c 7))); iexact HkL7
    iapply jL
    isplitl [HlL]; · iexact HlL
    iexact HkL

/-! ## The run -/

theorem wp_run (Q : PUnit → sProp 𝕄) :
    iprop(invs I K ∗ levAts L lv ∗ ow c (O₀ c) ∗ Bufs I c (xW c) ∗ Tok (F := F) c ∗ Crd (F := F) c ∗ Nbs (F := F) c
        ∗ atPos ER (barC c) 0 ∅ 0 ∗ cells (fun s => iprop(atPos ER (dmaC c s) 0 ∅ 0)) ∗ cells (fun s => iprop(reached ER (dmaC c s) 0)))
      ⊢ iprop(((ow c 0 ∗ Bufs I c (dW I c) ∗ atPos ER (barC c) 1 ∅ 0 ∗ cells (fun s => iprop(atPos ER (dmaC c s) 1 ∅ 0))) -∗ Q ⟨⟩)
        -∗ WP c (run c) Q) := by
  unfold Bufs Tok Crd Nbs cells
  iintro ⟨#HI, #HL, HO, ⟨Hpt, Hrs, Hos, Hws, Hg, Hmy, Hmb, Hpr, Hra, Hrb, Hoa, Hob, Hvm, Hva, Hvb, Hvoa, Hvob⟩,
    ⟨Tp, TL, TR, Txs, Txr, TSr, TRr, TSl, TRl⟩, ⟨Cb, Cx, CR, CL⟩, ⟨Np, NL, NR⟩, Ab, ⟨Axs, Axr, ASr, ARr, ASl, ARl⟩, ⟨Rxs, Rxr, RSr, RRr, RSl, RRl⟩⟩ Hk
  -- the windows by the way they come
  ihave Hrs := (Entails.of_eq (chunks c (rW I c))) $$ Hrs
  icases Hrs with ⟨HrsR, HrsL⟩
  ihave Hos := (Entails.of_eq (chunks c (xW (F := F) c))) $$ Hos
  icases Hos with ⟨HosR, HosL⟩
  ihave Hws := (Entails.of_eq (chunks c (cWany (F := F) c))) $$ Hws
  icases Hws with ⟨HwsR, HwsL⟩
  ihave HwsR := (Entails.of_eq (bigSep_first (fun i : Fin 9 => cWany (F := F) c (cr c i.val)))) $$ HwsR
  icases HwsR with ⟨Hw0, HwsR⟩
  ihave HrsR := (hole_dig (fun i : Fin 9 => rW I c (cr c i.val)) 0) $$ HrsR
  icases HrsR with ⟨Hr0, HrsR⟩
  -- what goes with the three signals
  have pP : iprop(anyF c prtM ∗ reached ER (dmaC c semXr) 0) ⊢ (barPay (nbP c) 0 : sProp 𝕄) :=
    Entails.of_eq (show _ = (barP (nbP c) : sProp 𝕄) from by unfold barP; rw [nbP_nbP])
  have pL : iprop((bigSep Finset.univ fun h : Fin 8 => cWany (F := F) c (cr c h.succ.val)) ∗ bigSep Finset.univ fun h => reached ER (dmaC c (semRr h)) 0)
      ⊢ (barPay (nbL c) 1 : sProp 𝕄) :=
    Entails.of_eq (show _ = (barR (nbL c) : sProp 𝕄) from by
      unfold barR; rw [bigSep_two, nbR_nbL]
      exact bigSep_congr fun h _ => by rw [cr_nbL c h.val (by omega), Fin.val_succ])
  have pR : iprop((bigSep Finset.univ fun h : Fin 7 => cWany (F := F) c (cl c (h.val + 1))) ∗ bigSep Finset.univ fun h => reached ER (dmaC c (semRl h)) 0)
      ⊢ (barPay (nbR c) 2 : sProp 𝕄) :=
    Entails.of_eq (show _ = (barL (nbR c) : sProp 𝕄) from by
      unfold barL; rw [bigSep_two, nbL_nbR]
      exact bigSep_congr fun h _ => by rw [cl_nbR c h.val])
  unfold run
  rw [WP_bind]
  iapply (wp_begin1 I K c) $$ [HO Hpt Hmy Hvm Hr0 Hra Hva Tp TL TR Hpr HwsR HwsL Rxr RRr RRl Np NL NR Cb Ab]
  · isplitr; · iexact HI
    isplitr; · iexact HL
    isplitl [HO]; · iexact HO
    isplitl [Hpt]; · iexact Hpt
    isplitl [Hmy]; · iexact Hmy
    isplitl [Hvm]; · iexact Hvm
    isplitl [Hr0]; · iexact Hr0
    isplitl [Hra]; · iexact Hra
    isplitl [Hva]; · iexact Hva
    unfold sgn
    isplitl [Tp Hpr Rxr Np]
    · isplitl [Tp]; · iexact Tp
      isplitl [Hpr Rxr]
      · iapply pP
        isplitl [Hpr]; · iexact Hpr
        iexact Rxr
      iexact Np
    isplitl [TL HwsR RRr NL]
    · isplitl [TL]; · iexact TL
      isplitl [HwsR RRr]
      · iapply pL
        isplitl [HwsR]; · iexact HwsR
        iexact RRr
      iexact NL
    isplitl [TR HwsL RRl NR]
    · isplitl [TR]; · iexact TR
      isplitl [HwsL RRl]
      · iapply pR
        isplitl [HwsL]; · iexact HwsL
        iexact RRl
      iexact NR
    isplitl [Cb]; · iexact Cb
    iexact Ab
  iintro ⟨HO, Hfm, Hfr, HP, HR, HG, Ab⟩
  -- the sends to come
  have sR : iprop((bigSep Finset.univ fun h => dutyTok ER (dmaC c (semSr h)) 0 (0 : Fin 3)) ∗ (bigSep Finset.univ fun h => reached ER (dmaC c (semSr h)) 0)
      ∗ (bigSep Finset.univ fun h => dutyTok ER (dmaC (nbR c) (semRr h)) 0 (0 : Fin 3)) ∗ barR (F := F) c) ⊢ bigSep Finset.univ (oR (F := F) c 0) := by
    unfold barR
    rw [bigSep_two, bigSep_two, bigSep_two]
    exact fam_same _ _ fun h => by unfold oR sndR; rw [if_neg (by omega)]
  have sL : iprop((bigSep Finset.univ fun h => dutyTok ER (dmaC c (semSl h)) 0 (0 : Fin 3)) ∗ (bigSep Finset.univ fun h => reached ER (dmaC c (semSl h)) 0)
      ∗ (bigSep Finset.univ fun h => dutyTok ER (dmaC (nbL c) (semRl h)) 0 (0 : Fin 3)) ∗ barL (F := F) c) ⊢ bigSep Finset.univ (oL (F := F) c 0) := by
    unfold barL
    rw [bigSep_two, bigSep_two, bigSep_two]
    exact fam_same _ _ fun h => by unfold oL sndL; rw [if_neg (by omega)]
  ihave HoR := sR $$ [TSr RSr TRr HR]
  · isplitl [TSr]; · iexact TSr
    isplitl [RSr]; · iexact RSr
    isplitl [TRr]; · iexact TRr
    iexact HR
  ihave HoL := sL $$ [TSl RSl TRl HG]
  · isplitl [TSl]; · iexact TSl
    isplitl [RSl]; · iexact RSl
    isplitl [TRl]; · iexact TRl
    iexact HG
  rw [WP_bind]
  iapply (wp_begin2 I K c) $$ [HO Hfm Hmb HP Txs Rxs Txr Axs Cx Axr Hw0 HoR HoL]
  · isplitr; · iexact HI
    isplitr; · iexact HL
    isplitl [HO]; · iexact HO
    isplitl [Hfm]; · iexact Hfm
    isplitl [Hmb]; · iexact Hmb
    isplitl [HP]; · iexact HP
    isplitl [Txs]; · iexact Txs
    isplitl [Rxs]; · iexact Rxs
    isplitl [Txr]; · iexact Txr
    isplitl [Axs]; · iexact Axs
    isplitl [Cx]; · iexact Cx
    isplitl [Axr]; · iexact Axr
    isplitl [Hw0]; · iexact Hw0
    isplitl [HoR]; · iexact HoR
    iexact HoL
  iintro ⟨HO, Hmy, Hpt, Hvm, Hmb, Hpr, Axs, Axr, HoR, HoL⟩
  rw [WP_bind]
  iapply (wp_begin3 I c (OR c 1 + OL c 1) (above_add (above_OR _ _ _ (by omega)) (above_OL _ _ _ (by omega)))) $$ [HO Hfr Hg Hoa Hvoa HrsR HosR Hrb Hvb HrsL]
  · isplitr; · iexact HL
    isplitl [HO]; · iexact HO
    isplitl [Hfr]; · iexact Hfr
    isplitl [Hg]; · iexact Hg
    isplitl [Hoa]; · iexact Hoa
    isplitl [Hvoa]; · iexact Hvoa
    isplitl [HrsR]; · iexact HrsR
    isplitl [HosR]; · iexact HosR
    isplitl [Hrb]; · iexact Hrb
    isplitl [Hvb]; · iexact Hvb
    iexact HrsL
  iintro ⟨HO, HrR, HrL, HwR, Hg⟩
  have aR0 : iprop((bigSep Finset.univ fun h => cred (tallyAt (dmaC c (semRr h)) () N)) ∗ bigSep Finset.univ fun h => atPos ER (dmaC c (semRr h)) 0 ∅ 0)
      ⊢ bigSep Finset.univ (aR (F := F) c 0) := by
    rw [bigSep_two]
    exact fam_same _ _ fun h => by unfold aR; rw [if_neg (by omega)]
  have aL0 : iprop((bigSep Finset.univ fun h => cred (tallyAt (dmaC c (semRl h)) () N)) ∗ bigSep Finset.univ fun h => atPos ER (dmaC c (semRl h)) 0 ∅ 0)
      ⊢ bigSep Finset.univ (aL (F := F) c 0) := by
    rw [bigSep_two]
    exact fam_same _ _ fun h => by unfold aL; rw [if_neg (by omega)]
  have emp0 : ∀ {n : ℕ} (D : Fin n → sProp 𝕄), (iprop(emp) : sProp 𝕄) ⊢ bigSep Finset.univ (two D (fun _ => iprop(emp)) 0) := fun D => by
    rw [two_none]
    exact Entails.of_eq (bigSep_emp_const _).symm
  iapply (wp_after I K c) $$ [HO ARr CR ARl CL HoR HoL HrR HrL HwR Hob Hvob HosL Hg ASr ASl]
  · isplitr; · iexact HI
    isplitr; · iexact HL
    isplitr [ASr ASl]
    · unfold St
      isplitl [HO]; · iexact HO
      isplitl [CR ARr]
      · iapply aR0
        isplitl [CR]; · iexact CR
        iexact ARr
      isplitl [HoR]; · iexact HoR
      isplitl [CL ARl]
      · iapply aL0
        isplitl [CL]; · iexact CL
        iexact ARl
      isplitl [HoL]; · iexact HoL
      isplitr; · iapply (emp0 _); iempintro
      isplitr; · iapply (emp0 _); iempintro
      isplitl [HrR]; · iexact HrR
      isplitl [HrL]; · iexact HrL
      isplitl [HwR]; · iexact HwR
      isplitl [Hob Hvob HosL]
      · unfold OSL
        isplitl [Hob Hvob]
        · isplitl [Hob]; · iexact Hob
          iexact Hvob
        iexact HosL
      iexact Hg
    isplitl [ASr]; · iexact ASr
    iexact ASl
  unfold Fin'
  iintro ⟨HO, ARr, ARl, HgR, HgL, HkR, HkL, HrR, HrL, HwR, HwL, Hoa, Hvoa, Hob, Hvob, Hg⟩
  ihave H := (shares I c) $$ [HgR HgL HkR HkL]
  · isplitl [HgR]; · iexact HgR
    isplitl [HgL]; · iexact HgL
    isplitl [HkR]; · iexact HkR
    iexact HkL
  icases H with ⟨ASr, ASl, Hws⟩
  ihave HrR := (show RSR I c 8 ⊢ iprop((anyF c rbaM ∗ semVal (dmaC c semRa) 0) ∗ bigSep Finset.univ (fun i : Fin 9 => rW I c (cr c i.val))) from by
    unfold RSR; rw [if_neg (by omega), hole_none _ _ le_rfl]) $$ HrR
  icases HrR with ⟨⟨Hra, Hva⟩, HrsR⟩
  ihave HrL := (show RSL I c 7 ⊢ iprop((anyF c rbbM ∗ semVal (dmaC c semRb) 0) ∗ bigSep Finset.univ (fun h : Fin 7 => rW I c (cl c (h.val + 1)))) from by
    unfold RSL; rw [if_neg (by omega), hole_none _ _ le_rfl]) $$ HrL
  icases HrL with ⟨⟨Hrb, Hvb⟩, HrsL⟩
  iapply Hk
  isplitl [HO]; · iexact HO
  isplitr [Ab Axs Axr ASr ARr ASl ARl]
  · isplitl [Hpt]; · iexact Hpt
    isplitl [HrsR HrsL]
    · iapply (Entails.of_eq (chunks c (rW I c)).symm)
      isplitl [HrsR]; · iexact HrsR
      iexact HrsL
    isplitl [HwR HwL]
    · iapply (Entails.of_eq (chunks c (dW I c)).symm)
      isplitl [HwR]; · iexact HwR
      iexact HwL
    isplitl [Hws]; · iexact Hws
    isplitl [Hg]; · iexact Hg
    isplitl [Hmy]; · iexact Hmy
    isplitl [Hmb]; · iexact Hmb
    isplitl [Hpr]; · iexact Hpr
    isplitl [Hra]; · iexact Hra
    isplitl [Hrb]; · iexact Hrb
    isplitl [Hoa]; · iexact Hoa
    isplitl [Hob]; · iexact Hob
    isplitl [Hvm]; · iexact Hvm
    isplitl [Hva]; · iexact Hva
    isplitl [Hvb]; · iexact Hvb
    isplitl [Hvoa]; · iexact Hvoa
    iexact Hvob
  isplitl [Ab]; · iexact Ab
  isplitl [Axs]; · iexact Axs
  isplitl [Axr]; · iexact Axr
  isplitl [ASr]; · iexact ASr
  isplitl [ARr]; · iexact ARr
  isplitl [ASl]; · iexact ASl
  iexact ARl

end

end Cert.Proof.Rms
-- ==== Proof.Store.lean ====
/-
  The large buffers cut into the sixteen chunks' windows, and put together again.
-/
module

public import proofs.«01_k».proof.Proof.Run

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Rows and chunks -/

/-- The chunk a row lies in, and its place in the chunk. -/
def rowCh (i : S8192x2048.Idx) : Fin 16 := ⟨(i 0).val / 512, by have : (i 0).val < 8192 := (i 0).isLt; omega⟩
def rowIn (i : S8192x2048.Idx) : S512x2048.Idx
  | 0 => ⟨(i 0).val % 512, Nat.mod_lt _ (by decide : 0 < 512)⟩
  | 1 => i 1

theorem emb_row (j : Fin 16) (k : S512x2048.Idx) : ((chO j).rect.emb k 0).val = 512 * j.val + (k 0).val := by
  rw [Rect.emb_apply, Rect.stride_unit, Nat.one_mul, Rect.off_unit]; rfl
theorem emb_col (j : Fin 16) (k : S512x2048.Idx) : ((chO j).rect.emb k 1).val = (k 1).val := by
  rw [Rect.emb_apply, Rect.stride_unit, Nat.one_mul, Rect.off_unit]; exact Nat.zero_add _
theorem rowCh_emb (j : Fin 16) (k : S512x2048.Idx) : rowCh ((chO j).rect.emb k) = j := by
  have h : (k 0).val < 512 := (k 0).isLt
  apply Fin.ext
  show ((chO j).rect.emb k 0).val / 512 = j.val
  rw [emb_row]; omega
theorem rowIn_emb (j : Fin 16) (k : S512x2048.Idx) : rowIn ((chO j).rect.emb k) = k := by
  have h : (k 0).val < 512 := (k 0).isLt
  funext a
  apply Fin.ext
  match a with
  | 0 =>
    show ((chO j).rect.emb k 0).val % 512 = (k 0).val
    rw [emb_row]; omega
  | 1 => exact emb_col j k
theorem emb_rowIn (i : S8192x2048.Idx) : (chO (rowCh i)).rect.emb (rowIn i) = i := by
  funext a
  apply Fin.ext
  match a with
  | 0 =>
    rw [emb_row]
    show 512 * ((i 0).val / 512) + (i 0).val % 512 = (i 0).val
    omega
  | 1 => rw [emb_col]; rfl

theorem mem_chunk (i : S8192x2048.Idx) (j : Fin 16) : i ∈ (chO j).rect.set ↔ rowCh i = j := by
  constructor
  · intro h
    obtain ⟨k, rfl⟩ := (chO j).rect.exists_idx_of_mem h
    exact rowCh_emb j k
  · rintro rfl
    rw [← Rect.map_emb_univ]
    exact Finset.mem_map.mpr ⟨rowIn i, Finset.mem_univ _, emb_rowIn i⟩
theorem chunks_disjoint (j j' : Fin 16) (h : j ≠ j') : Disjoint (chO j).rect.set (chO j').rect.set :=
  Finset.disjoint_left.mpr fun i h1 h2 => h (((mem_chunk i j).mp h1).symm.trans ((mem_chunk i j').mp h2))
theorem chunks_cover : (Finset.univ : Finset (Fin 16)).biUnion (fun j => (chO j).rect.set) = Finset.univ :=
  Finset.eq_univ_of_forall fun i => Finset.mem_biUnion.mpr ⟨rowCh i, Finset.mem_univ _, (mem_chunk i _).mpr rfl⟩

/-- A large array from its chunks. -/
def glue {α : Type} (Y : Fin 16 → S512x2048.Idx → α) : S8192x2048.Idx → α := fun i => Y (rowCh i) (rowIn i)
theorem glue_emb {α : Type} (Y : Fin 16 → S512x2048.Idx → α) (j : Fin 16) : (fun k => glue Y ((chO j).rect.emb k)) = Y j :=
  funext fun k => by unfold glue; rw [rowCh_emb, rowIn_emb]

section
variable (c : Dev nD)

/-- A buffer of 8192 rows is its sixteen windows. -/
theorem cut {sp : Space} {e : EltTy} (m : Memref sig .tc sp S8192x2048 e) (X : S8192x2048.Idx → Elt F e) :
    (owns (c : Thread nD τ) m fullShare X : sProp 𝕄)
      = bigSep Finset.univ fun j : Fin 16 => owns (c : Thread nD τ) (m.slice (chO j).rect (fun _ => rfl)) fullShare (fun k => X ((chO j).rect.emb k)) :=
  BI.equiv_iff.mp ⟨owns_rects (c : Thread nD τ) m fullShare (fun j => (chO j).rect) (fun _ _ => rfl) chunks_disjoint chunks_cover X,
    owns_of_rects (c : Thread nD τ) m fullShare (fun j => (chO j).rect) (fun _ _ => rfl) chunks_disjoint chunks_cover X⟩

/-- Owning a memref at what it reads is owning its elements. -/
theorem owns_read {sp : Space} {s : Shape} {e : EltTy} (m : Memref sig .tc sp s e) (q : PosShare TreeShare) (f : m.view.ty.Contents (Elt F)) :
    (owns (c : Thread nD τ) m q (m.view.read (Elt F) f) : sProp 𝕄) ⊢ m.view.loc (c : Thread nD τ) ↦[m.view.set]{q} f := by
  unfold owns
  iintro ⟨%g, %hg, H⟩
  rw [show (m.view.loc (c : Thread nD τ) ↦[m.view.set]{q} f : sProp 𝕄) = m.view.loc (c : Thread nD τ) ↦[m.view.set]{q} g from
    pointsTo_congr fun i hi => by
      obtain ⟨k, -, rfl⟩ := Finset.mem_map.mp hi
      have h := congrFun hg k
      rw [View.read_apply, View.read_apply] at h
      exact ((cast_inj _).mp h).symm]
  iexact H

theorem any_of {sp : Space} {s : Shape} {e : EltTy} (m : Memref sig .tc sp s e) (X : s.Idx → Elt F e) :
    (owns (c : Thread nD τ) m fullShare X : sProp 𝕄) ⊢ iprop(∃ X, owns (c : Thread nD τ) m fullShare X) := by
  iintro H
  iexists X; iexact H

/-! ## The kernel's four -/

variable (I : Inp F)

theorem resid_cut : (((c : Thread nD τ).loc main_arg1) ↦{fullShare} I.rs c : sProp 𝕄) = bigSep Finset.univ (rW I c) := by
  rw [← owns_whole (c : Thread nD τ) main_arg1]
  exact cut c residM (I.rs c)

theorem out_cut (f : FVec F S8192x2048 .f32) : (((c : Thread nD τ).loc main_v2) ↦{fullShare} f : sProp 𝕄) ⊢ bigSep Finset.univ (xW (F := F) c) := by
  rw [← owns_whole (c : Thread nD τ) main_v2]
  refine (Entails.of_eq (cut c outM f)).trans (bigSep_mono fun j _ => ?_)
  exact any_of c (outW (chO j)) _

/-- What the kernel leaves in its result. -/
def resV : FVec F S8192x2048 .f32 := glue (oV I c)

theorem out_glue : bigSep Finset.univ (dW I c) ⊢ (((c : Thread nD τ).loc main_v2) ↦{fullShare} resV c I : sProp 𝕄) := by
  rw [← owns_whole (c : Thread nD τ) main_v2]
  refine BIBase.Entails.trans (bigSep_mono fun j _ => ?_) (Entails.of_eq (cut c outM (resV c I)).symm)
  unfold resV
  rw [glue_emb]
  exact Idealize.SL.BI.Entails.refl _

theorem comm_cut : iprop(∃ f : Buf (Elt F) ((c : Thread nD τ).loc cc0_scratch0), ((c : Thread nD τ).loc cc0_scratch0) ↦{fullShare} f)
    ⊢ (bigSep Finset.univ (cWany (F := F) c) : sProp 𝕄) := by
  iintro ⟨%f, H⟩
  iapply (show (((c : Thread nD τ).loc cc0_scratch0) ↦{fullShare} f : sProp 𝕄) ⊢ bigSep Finset.univ (cWany (F := F) c) from by
    rw [← owns_whole (c : Thread nD τ) cc0_scratch0]
    refine (Entails.of_eq (cut c commM f)).trans (bigSep_mono fun j _ => ?_)
    exact any_of c (commW (chO j)) _)
  iexact H

theorem comm_glue : (bigSep Finset.univ (cWany (F := F) c) : sProp 𝕄)
    ⊢ iprop(∃ f : Buf (Elt F) ((c : Thread nD τ).loc cc0_scratch0), ((c : Thread nD τ).loc cc0_scratch0) ↦{fullShare} f) := by
  haveI : Nonempty (FVec F S512x2048 .bf16) := ⟨fun _ => ((inferInstance : ∀ e, Nonempty (Elt F e)) .bf16).some⟩
  refine BIBase.Entails.trans (bigSep_exists_pi (Y := fun _ : Fin 16 => FVec F S512x2048 .bf16) Finset.univ _) ?_
  iintro ⟨%Y, H⟩
  iexists (glue Y)
  iapply (show (bigSep Finset.univ fun j => cW c fullShare j (Y j)) ⊢ (((c : Thread nD τ).loc cc0_scratch0) ↦{fullShare} glue Y : sProp 𝕄) from by
    rw [← owns_whole (c : Thread nD τ) cc0_scratch0]
    refine BIBase.Entails.trans (bigSep_mono fun j _ => ?_) (Entails.of_eq (cut c commM (glue Y)).symm)
    rw [glue_emb]
    exact Idealize.SL.BI.Entails.refl _)
  iexact H

/-- The partial sums off the device's own chunk. -/
abbrev pRest (f : FVec F S1x8192x2048 .f32) : sProp 𝕄 :=
  (partW c).view.loc (c : Thread nD τ) ↦[Finset.univ \ (partW c).view.set]{fullShare} f

theorem part_cut (f : FVec F S1x8192x2048 .f32) : (((c : Thread nD τ).loc main_arg0) ↦{fullShare} f : sProp 𝕄)
    ⊢ iprop(owns (c : Thread nD τ) (partW c) fullShare ((partW c).view.read (Elt F) f) ∗ pRest c f) := by
  iintro H
  ihave H := (pointsTo_split_subset (ℓ := (partW c).view.loc (c : Thread nD τ)) (q := fullShare) (f := f) (Finset.subset_univ (partW c).view.set)).1 $$ H
  icases H with ⟨H, Hr⟩
  isplitl [H]
  · unfold owns
    iexists f
    isplitr; · ipureintro; rfl
    iexact H
  iexact Hr
theorem part_glue (f : FVec F S1x8192x2048 .f32) : iprop(owns (c : Thread nD τ) (partW c) fullShare ((partW c).view.read (Elt F) f) ∗ pRest c f)
    ⊢ (((c : Thread nD τ).loc main_arg0) ↦{fullShare} f : sProp 𝕄) := by
  iintro ⟨H, Hr⟩
  ihave H := (owns_read c (partW c) fullShare f) $$ H
  iapply (pointsTo_split_subset (ℓ := (partW c).view.loc (c : Thread nD τ)) (q := fullShare) (f := f) (Finset.subset_univ (partW c).view.set)).2
  isplitl [H]; · iexact H
  iexact Hr

end

end Cert.Proof.Rms
-- ==== Proof.Deal.lean ====
/-
  What the launch deals: every cell of the protocol, the token of every duty to the device that pays it, and to each
  device the units that the others owe it.
-/
module

public import proofs.«01_k».proof.Proof.Store
public import proofs.«01_k».proof.Proof.Gen.KernelIdeal.Frame
public import Idealize.ShloMosaic.Lib.Pipeline.RegionTalk
public import Idealize.ShloMosaic.Lib.Rounds.Family
public import Idealize.ShloMosaic.Harness.Basic

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The semaphores, in the order of `cells` -/

abbrev TI : Type := Fin 2 ⊕ (Fin 8 ⊕ Fin 8) ⊕ (Fin 7 ⊕ Fin 7)
def tiSem : TI → DmaSem sig := Sum.elim (fun i => if i = 0 then semXs else semXr) (Sum.elim (Sum.elim semSr semRr) (Sum.elim semSl semRl))
theorem tiSem_inj : Function.Injective tiSem := by
  have h : ∀ a b : TI, tiSem a = tiSem b → a = b := by decide +kernel
  exact fun a b => h a b
theorem tiSem_talks : ∀ i : TI, Talks (tiSem i) := by decide +kernel
theorem tiSem_all : ∀ s : DmaSem sig, Talks s → ∃ i : TI, tiSem i = s := by decide +kernel

theorem cells_eq (Φ : DmaSem sig → sProp 𝕄) : (bigSep Finset.univ fun i : TI => Φ (tiSem i)) = cells Φ := by
  rw [bigSep_univ_sum, bigSep_univ_sum, bigSep_univ_sum, bigSep_univ_sum, BI.bigSep_fin_two]
  unfold cells
  refine BI.Entails.antisymm ?_ ?_
  · show iprop((Φ semXs ∗ Φ semXr) ∗ ((bigSep Finset.univ fun h => Φ (semSr h)) ∗ bigSep Finset.univ fun h => Φ (semRr h))
      ∗ (bigSep Finset.univ fun h => Φ (semSl h)) ∗ bigSep Finset.univ fun h => Φ (semRl h)) ⊢ _
    iintro ⟨⟨H1, H2⟩, ⟨H3, H4⟩, H5, H6⟩
    isplitl [H1]; · iexact H1
    isplitl [H2]; · iexact H2
    isplitl [H3]; · iexact H3
    isplitl [H4]; · iexact H4
    isplitl [H5]; · iexact H5
    iexact H6
  · show _ ⊢ iprop((Φ semXs ∗ Φ semXr) ∗ ((bigSep Finset.univ fun h => Φ (semSr h)) ∗ bigSep Finset.univ fun h => Φ (semRr h))
      ∗ (bigSep Finset.univ fun h => Φ (semSl h)) ∗ bigSep Finset.univ fun h => Φ (semRl h))
    iintro ⟨H1, H2, H3, H4, H5, H6⟩
    isplitl [H1 H2]
    · isplitl [H1]; · iexact H1
      iexact H2
    isplitl [H3 H4]
    · isplitl [H3]; · iexact H3
      iexact H4
    isplitl [H5]; · iexact H5
    iexact H6

/-- The kernel's own semaphores: those of the protocol, and the five of the local copies. -/
abbrev OI : Type := TI ⊕ Fin 5
def oiSem : OI → DmaSem sig := Sum.elim tiSem fun i => if i = 0 then semMy else if i = 1 then semRa else if i = 2 then semRb else if i = 3 then semOa else semOb
abbrev osem (k : OI) : SemLoc sig := .dma (oiSem k)
theorem oiSem_inj : ∀ a b : OI, oiSem a = oiSem b → a = b := by decide +kernel
theorem oiSem_own : ∀ k : OI, (osem k).isScoped .tc = true := by decide +kernel
theorem oiSem_disj : ∀ (k : OI) (w : Fin 1) (s : Fin (spec0 w).nbuf), osem k ≠ .dma ((spec0 w).sem s) := by decide +kernel
theorem osem_facts : Pipeline.OwnSemFacts spec0 osem where
  isScoped := oiSem_own
  inj a b h := oiSem_inj a b (by injection h)
  disj := oiSem_disj

/-- The five semaphores of the local copies, at rest. -/
def Loc5 (c : Dev nD) : sProp 𝕄 :=
  iprop(semVal (dmaC c semMy) 0 ∗ semVal (dmaC c semRa) 0 ∗ semVal (dmaC c semRb) 0 ∗ semVal (dmaC c semOa) 0 ∗ semVal (dmaC c semOb) 0)

theorem ownSems_eq (c : Dev nD) : (Pipeline.ownSems0 osem c : sProp 𝕄) = iprop(cells (fun s => semVal (dmaC c s) 0) ∗ Loc5 c) := by
  unfold Pipeline.ownSems0
  rw [bigSep_univ_sum]
  rw [show (bigSep Finset.univ fun i : TI => (semVal ((c : Thread nD τ), osem (Sum.inl i)) 0 : sProp 𝕄)) = cells (fun s => semVal (dmaC c s) 0) from
    cells_eq (fun s => (semVal (dmaC c s) 0 : sProp 𝕄))]
  rw [show (bigSep Finset.univ fun i : Fin 5 => (semVal ((c : Thread nD τ), osem (Sum.inr i)) 0 : sProp 𝕄)) = Loc5 c from
    bigSep_univ_eq_bigSepL [0, 1, 2, 3, 4] (by decide) (by decide) _]
  rfl

theorem unscopedSems_eq (c : Dev nD) : (unscopedSems0 c : sProp 𝕄) = semVal (barC c) 0 := by
  unfold unscopedSems0
  rw [show (Finset.univ.filter fun sm : SemLoc sig => ¬ sm.isScoped .tc) = {SemLoc.reg barrier0} from by decide +kernel, bigSep_singleton]
theorem unscoped_bar : ∀ sm : SemLoc sig, sm.isScoped .tc = false → sm = .reg barrier0 := by decide +kernel

/-! ## The cells and the tokens -/

def barEmb : Dev nD ↪ GSem nD τ sig := ⟨fun c => barC c, fun _ _ h => congrArg (fun g : GSem nD τ sig => g.1.1) h⟩
def dmaEmb : Dev nD × TI ↪ GSem nD τ sig :=
  ⟨fun x => dmaC x.1 (tiSem x.2), fun _ _ h => Prod.ext (congrArg (fun g : GSem nD τ sig => g.1.1) h)
    (tiSem_inj (by have h2 := congrArg Prod.snd h; injection h2))⟩
abbrev barCells : Finset (GSem nD τ sig) := Finset.univ.map barEmb
abbrev dmaCells : Finset (GSem nD τ sig) := Finset.univ.map dmaEmb

/-- A duty within one device: which semaphore, which duty of its one round. -/
abbrev dutyOf : Fin 3 ⊕ TI → SemLoc sig × Fin 3 := Sum.elim (fun d => (.reg barrier0, d)) fun i => (.dma (tiSem i), 0)
theorem dutyOf_inj : Function.Injective dutyOf := by
  rintro (d | i) (d' | i') h
  · exact congrArg Sum.inl (congrArg Prod.snd h)
  · have h1 := congrArg Prod.fst h; injection h1
  · have h1 := congrArg Prod.fst h; injection h1
  · have h1 := congrArg Prod.fst h; injection h1 with h2; exact congrArg Sum.inr (tiSem_inj h2)
def dealToks : Finset (GSem nD τ sig × ℕ × Fin 3) :=
  Finset.univ.map ⟨fun x : Dev nD × (Fin 3 ⊕ TI) => (((x.1 : Thread nD τ), (dutyOf x.2).1), 0, (dutyOf x.2).2), fun _ _ h =>
    Prod.ext (congrArg (fun t : GSem nD τ sig × ℕ × Fin 3 => t.1.1.1) h)
      (dutyOf_inj (Prod.ext (congrArg (fun t : GSem nD τ sig × ℕ × Fin 3 => t.1.2) h) (congrArg (fun t : GSem nD τ sig × ℕ × Fin 3 => t.2.2) h)))⟩

theorem cells_apart : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  have h2 := congrArg Prod.snd h
  injection h2

theorem gcell_mem (x : Dev nD × TSem) : gcell x ∈ (barCells ∪ dmaCells : Finset (GSem nD τ sig)) := by
  obtain ⟨c, _ | ⟨s, hs⟩⟩ := x
  · exact Finset.mem_union_left _ (Finset.mem_map_of_mem barEmb (Finset.mem_univ c))
  · obtain ⟨i, rfl⟩ := tiSem_all s hs
    exact Finset.mem_union_right _ (Finset.mem_map_of_mem dmaEmb (Finset.mem_univ (c, i)))

theorem invs_intro (I : Inp F) (κ : GSem nD τ sig → ℕ) :
    (bigSep (barCells ∪ dmaCells) fun g => (cellInv ER (Rd I) (κ g) g : sProp 𝕄)) ⊢ invs I κ := by
  unfold invs
  exact bigSep_intro_persistent fun x _ =>
    bigSep_elim (Φ := fun g => (cellInv ER (Rd I) (κ g) g : sProp 𝕄)) (gcell_mem x)

theorem reached_bar (c : Dev nD) : (bigSep barCells fun g => (reached ER g 0 : sProp 𝕄)) ⊢ reached ER (barC c) 0 :=
  bigSep_elim (Φ := fun g => (reached ER g 0 : sProp 𝕄)) (Finset.mem_map_of_mem barEmb (Finset.mem_univ c))

theorem open_eq : (bigSep dmaCells fun g => (openTok ER g : sProp 𝕄)) = bigSep Finset.univ fun c : Dev nD => cells fun s => openTok ER (dmaC c s) := by
  rw [bigSep_map, bigSep_univ_prod]
  exact bigSep_congr fun c _ => cells_eq (fun s => (openTok ER (dmaC c s) : sProp 𝕄))

abbrev dT (g : GSem nD τ sig) (d : Fin 3) : sProp 𝕄 := dutyTok ER g 0 d

theorem three_of (Φ : Fin 3 → sProp 𝕄) : bigSep Finset.univ Φ = iprop(Φ 0 ∗ Φ 1 ∗ Φ 2) :=
  bigSep_univ_eq_bigSepL [0, 1, 2] (by decide) (by decide) Φ

/-- The tokens of one device's cells. -/
theorem toks_eq : (bigSep dealToks fun x => (dutyTok ER x.1 x.2.1 x.2.2 : sProp 𝕄))
    = bigSep Finset.univ fun c : Dev nD => iprop((dT (barC c) 0 ∗ dT (barC c) 1 ∗ dT (F := F) (barC c) 2) ∗ cells fun s => dT (dmaC c s) 0) := by
  unfold dealToks
  rw [bigSep_map, bigSep_univ_prod]
  refine bigSep_congr fun c _ => ?_
  rw [bigSep_univ_sum]
  rw [← cells_eq (fun s => (dT (dmaC c s) 0 : sProp 𝕄)), ← three_of (fun d => (dT (barC c) d : sProp 𝕄))]
  rfl

def eP : Dev nD ≃ Dev nD := ⟨nbP, nbP, nbP_nbP, nbP_nbP⟩
def eR : Dev nD ≃ Dev nD := ⟨nbR, nbL, nbL_nbR, nbR_nbL⟩
def eL : Dev nD ≃ Dev nD := ⟨nbL, nbR, nbR_nbL, nbL_nbR⟩

/-- Each token to the device that pays its duty. -/
theorem toks_around : (bigSep Finset.univ fun c : Dev nD =>
      iprop((dT (barC c) 0 ∗ dT (barC c) 1 ∗ dT (F := F) (barC c) 2) ∗ cells fun s => dT (dmaC c s) 0))
    ⊢ bigSep Finset.univ fun c : Dev nD => (Tok c : sProp 𝕄) := by
  have move (e : Dev nD ≃ Dev nD) (Φ : Dev nD → sProp 𝕄) : bigSep Finset.univ Φ ⊢ bigSep Finset.univ fun c => Φ (e c) :=
    Entails.of_eq (bigSep_univ_equiv e Φ)
  unfold cells Tok
  simp only [bigSep_sep']
  iintro ⟨⟨B0, B1, B2⟩, Xs, Xr, Sr, Rr, Sl, Rl⟩
  isplitl [B0]; · iapply (move eP fun c => dT (barC c) 0); iexact B0
  isplitl [B1]; · iapply (move eL fun c => dT (barC c) 1); iexact B1
  isplitl [B2]; · iapply (move eR fun c => dT (barC c) 2); iexact B2
  isplitl [Xs]; · iexact Xs
  isplitl [Xr]; · iapply (move eP fun c => dT (dmaC c semXr) 0); iexact Xr
  isplitl [Sr]; · iexact Sr
  isplitl [Rr]; · iapply (move eR fun c => bigSep Finset.univ fun h => dT (dmaC c (semRr h)) 0); iexact Rr
  isplitl [Sl]; · iexact Sl
  iapply (move eL fun c => bigSep Finset.univ fun h => dT (dmaC c (semRl h)) 0); iexact Rl

/-! ## What the others owe a device -/

theorem three_units (c : Dev nD) : iprop(cred (tallyAt (barC c) () 1) ∗ cred (tallyAt (barC c) () 1) ∗ cred (tallyAt (barC c) () 1))
    ⊢ (cred (tallyAt (barC c) () 3) : sProp 𝕄) := by
  iintro ⟨H0, H1, H2⟩
  ihave H := (cred_add (tallyAt (barC c) () 1) (tallyAt (barC c) () 1)).2 $$ [H0 H1]
  · isplitl [H0]; · iexact H0
    iexact H1
  ihave H := (cred_add (tallyAt (barC c) () 1 + tallyAt (barC c) () 1) (tallyAt (barC c) () 1)).2 $$ [H H2]
  · isplitl [H]; · iexact H
    iexact H2
  rw [tallyAt_add, tallyAt_add]
  iexact H

theorem OR_all (c : Dev nD) : OR c 0 = ∑ h : Fin 8, tallyAt (dmaC (nbR c) (semRr h)) () N := by
  unfold OR
  rw [Finset.filter_true_of_mem fun h _ => Nat.zero_le _]
theorem OL_all (c : Dev nD) : OL c 0 = ∑ h : Fin 7, tallyAt (dmaC (nbL c) (semRl h)) () N := by
  unfold OL
  rw [Finset.filter_true_of_mem fun h _ => Nat.zero_le _]

theorem credits (c : Dev nD) : (Pipeline.launchCred O₀ c : sProp 𝕄) ⊢ Crd c := by
  have e : (O₀ : Dev nD → Tal) = fun d => (∑ h : Fin 8, tallyAt (dmaC (nbR d) (semRr h)) () N) + (∑ h : Fin 7, tallyAt (dmaC (nbL d) (semRl h)) () N)
      + tallyAt (dmaC (nbP d) semXr) () N + tallyAt (barC (nbR d)) () 1 + tallyAt (barC (nbL d)) () 1 + tallyAt (barC (nbP d)) () 1 :=
    funext fun d => by unfold O₀; rw [OR_all, OL_all]; rfl
  rw [e, Pipeline.launchCred_add, Pipeline.launchCred_add, Pipeline.launchCred_add, Pipeline.launchCred_add, Pipeline.launchCred_add,
    Pipeline.launchCred_sum, Pipeline.launchCred_sum]
  unfold Crd
  iintro ⟨⟨⟨⟨⟨HR, HL⟩, HX⟩, H2⟩, H1⟩, H0⟩
  isplitl [H0 H1 H2]
  · iapply (three_units c)
    isplitl [H0]; · iapply (Pipeline.launchCred_tallyAt (.reg barrier0) nbP nbP nbP_nbP nbP_nbP () 1 c); iexact H0
    isplitl [H1]; · iapply (Pipeline.launchCred_tallyAt (.reg barrier0) nbL nbR nbL_nbR nbR_nbL () 1 c); iexact H1
    iapply (Pipeline.launchCred_tallyAt (.reg barrier0) nbR nbL nbR_nbL nbL_nbR () 1 c); iexact H2
  isplitl [HX]; · iapply (Pipeline.launchCred_tallyAt (.dma semXr) nbP nbP nbP_nbP nbP_nbP () N c); iexact HX
  isplitl [HR]
  · iapply (show (bigSep Finset.univ fun h : Fin 8 => Pipeline.launchCred (fun d => tallyAt (dmaC (nbR d) (semRr h)) () N) c : sProp 𝕄)
        ⊢ bigSep Finset.univ fun h : Fin 8 => cred (tallyAt (dmaC c (semRr h)) () N) from
      bigSep_mono fun h _ => Pipeline.launchCred_tallyAt (.dma (semRr h)) nbR nbL nbR_nbL nbL_nbR () N c)
    iexact HR
  iapply (show (bigSep Finset.univ fun h : Fin 7 => Pipeline.launchCred (fun d => tallyAt (dmaC (nbL d) (semRl h)) () N) c : sProp 𝕄)
      ⊢ bigSep Finset.univ fun h : Fin 7 => cred (tallyAt (dmaC c (semRl h)) () N) from
    bigSep_mono fun h _ => Pipeline.launchCred_tallyAt (.dma (semRl h)) nbL nbR nbL_nbR nbR_nbL () N c)
  iexact HL

end Cert.Proof.Rms
-- ==== Proof.Launch.lean ====
/-
  The region's proof data on one device, and the body between its two ends.
-/
module

public import proofs.«01_k».proof.Proof.Same
public import proofs.«01_k».proof.Proof.Deal

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the kernel finds and what it leaves -/

abbrev tcRef (b : Ref sig .tc) : DevRef τ sig := Proc.devRef .tc b

/-- A device's buffers at launch, when the kernel starts, and when it has ended. -/
abbrev W₀ (c : Dev nD) : Valuation τ sig (Elt F) := fun b => m (c, b)
abbrev W₁ (c : Dev nD) : Valuation τ sig (Elt F) := StableHlo.after hostOps0 (W₀ m c)
def inp : Inp F where
  pa d := (partW d).view.read (Elt F) (m ((d : Thread nD τ).loc main_arg0))
  rs d := m ((d : Thread nD τ).loc main_arg1)
  gm d := iblk m d 0 t0_0
def W₂ (c : Dev nD) : Valuation τ sig (Elt F) := Function.update (W₁ m c) (tcRef main_v2) (resV c (inp m))

theorem W₂_v2 (c : Dev nD) : W₂ m c (tcRef main_v2) = resV c (inp m) := Function.update_self ..
theorem W₂_ne (c : Dev nD) (b : DevRef τ sig) (h : b ≠ tcRef main_v2) : W₂ m c b = W₁ m c b := Function.update_of_ne h ..
theorem W₂_arg0 (c : Dev nD) : W₂ m c (tcRef main_arg0) = m ((c : Thread nD τ).loc main_arg0) :=
  (W₂_ne m c _ (by decide)).trans (V_main_arg0 m c)
theorem W₂_arg1 (c : Dev nD) : W₂ m c (tcRef main_arg1) = m ((c : Thread nD τ).loc main_arg1) :=
  (W₂_ne m c _ (by decide)).trans (V_main_arg1 m c)
theorem W₂_arg2 (c : Dev nD) : W₂ m c (tcRef main_arg2) = m ((c : Thread nD τ).loc main_arg2) :=
  (W₂_ne m c _ (by decide)).trans (V_main_arg2 m c)

/-- The buffers that the body addresses itself; all that no window stages. -/
def bodyRefs : Finset (DevRef τ sig) := {tcRef main_arg0, tcRef main_arg1, tcRef main_v2}
def restRefs : Finset (DevRef τ sig) := {tcRef main_arg0, tcRef main_arg1, tcRef main_arg2, tcRef main_v2}
theorem body_sub : bodyRefs ⊆ restRefs := by decide

/-- A whole buffer of a device. -/
abbrev at1 (c : Dev nD) (b : Ref sig .tc) (W : Valuation τ sig (Elt F)) : sProp 𝕄 := ((c : Thread nD τ).loc b) ↦{fullShare} W (tcRef b)

theorem held_body (c : Dev nD) (W : Valuation τ sig (Elt F)) : (StableHlo.held (c : Thread nD τ) bodyRefs W : sProp 𝕄)
    = iprop(at1 c main_arg0 W ∗ at1 c main_arg1 W ∗ at1 c main_v2 W) := by
  unfold StableHlo.held
  rw [bigSep_eq_bigSepL_of_eq [tcRef main_arg0, tcRef main_arg1, tcRef main_v2] (by decide) (by decide)]
  rfl
theorem held_rest (c : Dev nD) (W : Valuation τ sig (Elt F)) : (StableHlo.held (c : Thread nD τ) restRefs W : sProp 𝕄)
    = iprop(at1 c main_arg0 W ∗ at1 c main_arg1 W ∗ at1 c main_arg2 W ∗ at1 c main_v2 W) := by
  unfold StableHlo.held
  rw [bigSep_eq_bigSepL_of_eq [tcRef main_arg0, tcRef main_arg1, tcRef main_arg2, tcRef main_v2] (by decide) (by decide)]
  rfl
theorem held_arr (c : Dev nD) (W : Valuation τ sig (Elt F)) : (StableHlo.held (c : Thread nD τ) (Pipeline.arrRefs spec0) W : sProp 𝕄)
    = at1 c main_v1 W := by
  unfold StableHlo.held
  rw [bigSep_eq_bigSepL_of_eq [tcRef main_v1] (by decide) (by decide)]
  rfl
theorem held_all (c : Dev nD) (W : Valuation τ sig (Elt F)) : (StableHlo.held (c : Thread nD τ) (Pipeline.ucRefs τ sig) W : sProp 𝕄)
    = iprop(at1 c main_v1 W ∗ StableHlo.held (c : Thread nD τ) restRefs W) := by
  rw [held_rest]
  unfold StableHlo.held
  rw [bigSep_eq_bigSepL_of_eq [tcRef main_v1, tcRef main_arg0, tcRef main_arg1, tcRef main_arg2, tcRef main_v2] (by decide) (by decide)]
  rfl

/-! ## The protocol's share of a device -/

/-- Dealt at launch: nothing of the device's own DMA semaphores is open yet. -/
def Tk (c : Dev nD) : sProp 𝕄 :=
  iprop((∃ K, invs (inp m) K) ∗ Nbs c ∗ atPos ER (barC c) 0 ∅ 0 ∗ cells (fun s => openTok ER (dmaC c s)) ∗ Tok c ∗ Crd c)
/-- When the kernel starts. -/
def Xk (c : Dev nD) : sProp 𝕄 :=
  iprop(∃ K, invs (inp m) K ∗ levAts L lv ∗ Nbs c ∗ atPos ER (barC c) 0 ∅ 0 ∗ cells (fun s => iprop(atPos ER (dmaC c s) 0 ∅ 0))
    ∗ cells (fun s => iprop(reached ER (dmaC c s) 0)) ∗ Tok c ∗ Crd c ∗ Loc5 c)

section
variable (I : Inp F) (K : GSem nD τ sig → ℕ) (c : Dev nD)

theorem open_all : iprop(invs I K ∗ cells (fun s => openTok ER (dmaC c s)) ∗ cells (fun s => semVal (dmaC c s) 0))
    ⊢ (|={Set.univ}=> iprop(cells (fun s => iprop(atPos ER (dmaC c s) 0 ∅ 0)) ∗ cells (fun s => iprop(reached ER (dmaC c s) 0))) : sProp 𝕄) := by
  have one (i : TI) : iprop(invs I K ∗ (openTok ER (dmaC c (tiSem i)) ∗ semVal (dmaC c (tiSem i)) 0))
      ⊢ (|={Set.univ}=> iprop(atPos ER (dmaC c (tiSem i)) 0 ∅ 0 ∗ reached ER (dmaC c (tiSem i)) 0) : sProp 𝕄) := by
    iintro ⟨#HI, Ho, Hv⟩
    ihave #Hc := (invs_dma I K c (tiSem i) (tiSem_talks i)) $$ HI
    iapply (Rounds.cell_open ER (Rd I) (g := dmaC c (tiSem i)) (Set.mem_univ (K (dmaC c (tiSem i)))))
    isplitr; · iexact Hc
    isplitl [Ho]; · iexact Ho
    iexact Hv
  have all := BIBase.Entails.trans (bigSep_with_persistent (S := (Finset.univ : Finset TI)) (R := invs I K) fun i _ => one i) (bigSep_fupd _ _)
  rw [bigSep_sep', bigSep_sep', cells_eq (fun s => (openTok ER (dmaC c s) : sProp 𝕄)), cells_eq (fun s => (semVal (dmaC c s) 0 : sProp 𝕄)),
    cells_eq (fun s => (iprop(atPos ER (dmaC c s) 0 ∅ 0) : sProp 𝕄)), cells_eq (fun s => (iprop(reached ER (dmaC c s) 0) : sProp 𝕄))] at all
  exact all

theorem close_all : iprop(invs I K ∗ cells (fun s => iprop(atPos ER (dmaC c s) 1 ∅ 0)))
    ⊢ (|={Set.univ}=> cells (fun s => semVal (dmaC c s) 0) : sProp 𝕄) := by
  have one (i : TI) : iprop(invs I K ∗ atPos ER (dmaC c (tiSem i)) 1 ∅ 0) ⊢ (|={Set.univ}=> semVal (dmaC c (tiSem i)) 0 : sProp 𝕄) := by
    iintro ⟨#HI, Ha⟩
    ihave #Hc := (invs_dma I K c (tiSem i) (tiSem_talks i)) $$ HI
    iapply (close I (K (dmaC c (tiSem i))) (dmaC c (tiSem i)))
    isplitr; · iexact Hc
    iexact Ha
  have all := BIBase.Entails.trans (bigSep_with_persistent (S := (Finset.univ : Finset TI)) (R := invs I K) fun i _ => one i) (bigSep_fupd _ _)
  rw [cells_eq (fun s => (iprop(atPos ER (dmaC c s) 1 ∅ 0) : sProp 𝕄)), cells_eq (fun s => (semVal (dmaC c s) 0 : sProp 𝕄))] at all
  exact all

theorem any_scratch (b : Ref sig .tc) : (iprop(∃ f : Buf (Elt F) ((c : Thread nD τ).loc b), ((c : Thread nD τ).loc b) ↦{fullShare} f) : sProp 𝕄)
    = iprop(∃ X : b.ty.Contents (Elt F), owns (c : Thread nD τ) (Memref.whole b) fullShare X) := by
  simp only [owns_whole]

/-- The scratch buffers that are not cut, at contents not chosen. -/
def Scr : sProp 𝕄 := iprop(anyF c mycM ∗ anyF c mybfM ∗ anyF c prtM ∗ anyF c rbaM ∗ anyF c rbbM ∗ anyF c obaM ∗ anyF (F := F) c obbM)

theorem scratch_eq : (Pipeline.scopedRest spec0 c : sProp 𝕄)
    = iprop((∃ f : Buf (Elt F) ((c : Thread nD τ).loc cc0_scratch0), ((c : Thread nD τ).loc cc0_scratch0) ↦{fullShare} f) ∗ Scr c) := by
  rw [scopedRest0_eq]
  simp only [any_scratch]
  rfl

end

/-- The body's run between the region's two ends. -/
theorem run_body (c : Dev nD) : iprop((Pipeline.scopedRest spec0 c ∗ (∃ r, prngReg c r) ∗ StableHlo.held (c : Thread nD τ) bodyRefs (W₁ m c) ∗ Xk m c)
      ∗ ow c (O₀ c) ∗ owns (c : Thread nD τ) gamM fullShare ((inp m).gm c))
    ⊢ WP c (prog (F := F)) fun _ => iprop((Pipeline.scopedRest spec0 c ∗ (∃ r, prngReg c r) ∗ StableHlo.held (c : Thread nD τ) bodyRefs (W₂ m c)
        ∗ Pipeline.ownSems0 osem c ∗ semVal (barC c) 0) ∗ ow c 0 ∗ owns (c : Thread nD τ) gamM fullShare ((inp m).gm c)) := by
  rw [scratch_eq, held_body, held_body, ownSems_eq]
  rw [show (at1 c main_v2 (W₂ m c) : sProp 𝕄) = (((c : Thread nD τ).loc main_v2) ↦{fullShare} resV c (inp m)) from
      congrArg (fun f => (((c : Thread nD τ).loc main_v2) ↦{fullShare} f : sProp 𝕄)) (W₂_v2 m c),
    show (at1 c main_arg0 (W₂ m c) : sProp 𝕄) = (((c : Thread nD τ).loc main_arg0) ↦{fullShare} m ((c : Thread nD τ).loc main_arg0)) from
      congrArg (fun f => (((c : Thread nD τ).loc main_arg0) ↦{fullShare} f : sProp 𝕄)) (W₂_arg0 m c),
    show (at1 c main_arg1 (W₂ m c) : sProp 𝕄) = (((c : Thread nD τ).loc main_arg1) ↦{fullShare} (inp m).rs c) from
      congrArg (fun f => (((c : Thread nD τ).loc main_arg1) ↦{fullShare} f : sProp 𝕄)) (W₂_arg1 m c)]
  rw [show (at1 c main_arg0 (W₁ m c) : sProp 𝕄) = (((c : Thread nD τ).loc main_arg0) ↦{fullShare} m ((c : Thread nD τ).loc main_arg0)) from
      congrArg (fun f => (((c : Thread nD τ).loc main_arg0) ↦{fullShare} f : sProp 𝕄)) (V_main_arg0 m c),
    show (at1 c main_arg1 (W₁ m c) : sProp 𝕄) = (((c : Thread nD τ).loc main_arg1) ↦{fullShare} (inp m).rs c) from
      congrArg (fun f => (((c : Thread nD τ).loc main_arg1) ↦{fullShare} f : sProp 𝕄)) (V_main_arg1 m c)]
  rw [resid_cut c (inp m)]
  unfold Xk Scr Loc5
  iintro ⟨⟨⟨Hcomm, ⟨S1, S2, S3, S4, S5, S6, S7⟩⟩, Hp, ⟨Ha0, Ha1, Ho⟩, ⟨%K, #HI, #Hlev, Hnb, HbP, HcP, HcR, Htok, Hcrd, ⟨V1, V2, V3, V4, V5⟩⟩⟩, HO, Hg⟩
  ihave Hcomm := (comm_cut c) $$ Hcomm
  ihave Ha0 := (part_cut c (m ((c : Thread nD τ).loc main_arg0))) $$ Ha0
  icases Ha0 with ⟨Ha0, Hpr⟩
  ihave Ho := (out_cut c _) $$ Ho
  iapply (wp_fupd frame (wpE (defs₀ (F := F)) 𝒱₀ (c : Thread nD τ) none) Set.univ prog)
  rw [show (prog (F := F)) = Prog.op .deviceId (fun d => run d) from rfl, wp_deviceId]
  iapply (wp_run (inp m) K c) $$ [Hcomm S1 S2 S3 S4 S5 S6 S7 Ha0 Ha1 Ho Hnb HbP HcP HcR Htok Hcrd V1 V2 V3 V4 V5 HO Hg]
  · isplitr; · iexact HI
    isplitr; · iexact Hlev
    isplitl [HO]; · iexact HO
    isplitl [Hcomm S1 S2 S3 S4 S5 S6 S7 Ha0 Ha1 Ho V1 V2 V3 V4 V5 Hg]
    · unfold Bufs
      isplitl [Ha0]; · iexact Ha0
      isplitl [Ha1]; · iexact Ha1
      isplitl [Ho]; · iexact Ho
      isplitl [Hcomm]; · iexact Hcomm
      isplitl [Hg]; · iexact Hg
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [V1]; · iexact V1
      isplitl [V2]; · iexact V2
      isplitl [V3]; · iexact V3
      isplitl [V4]; · iexact V4
      iexact V5
    isplitl [Htok]; · iexact Htok
    isplitl [Hcrd]; · iexact Hcrd
    isplitl [Hnb]; · iexact Hnb
    isplitl [HbP]; · iexact HbP
    isplitl [HcP]; · iexact HcP
    iexact HcR
  unfold Bufs
  iintro ⟨HO, ⟨Ha0, Ha1, Ho, Hcomm, Hg, S1, S2, S3, S4, S5, S6, S7, V1, V2, V3, V4, V5⟩, HbP, HcP⟩
  imod (close_all (inp m) K c) $$ [HcP] with Hcv
  · isplitr; · iexact HI
    iexact HcP
  imod (close (inp m) (K (barC c)) (barC c)) $$ [HbP] with Hbv
  · isplitr; · iapply (invs_bar (inp m) K c); iexact HI
    iexact HbP
  imodintro
  isplitr [HO Hg]
  · isplitl [Hcomm S1 S2 S3 S4 S5 S6 S7]
    · isplitl [Hcomm]; · iapply (comm_glue c); iexact Hcomm
      isplitl [S1]; · iexact S1
      isplitl [S2]; · iexact S2
      isplitl [S3]; · iexact S3
      isplitl [S4]; · iexact S4
      isplitl [S5]; · iexact S5
      isplitl [S6]; · iexact S6
      iexact S7
    isplitl [Hp]; · iexact Hp
    isplitl [Ha0 Hpr Ha1 Ho]
    · isplitl [Ha0 Hpr]
      · iapply (part_glue c (m ((c : Thread nD τ).loc main_arg0)))
        isplitl [Ha0]; · iexact Ha0
        iexact Hpr
      isplitl [Ha1]; · iexact Ha1
      iapply (out_glue c (inp m)); iexact Ho
    isplitr [Hbv]
    · isplitl [Hcv]; · iexact Hcv
      isplitl [V1]; · iexact V1
      isplitl [V2]; · iexact V2
      isplitl [V3]; · iexact V3
      isplitl [V4]; · iexact V4
      iexact V5
    iexact Hbv
  isplitl [HO]; · iexact HO
  iexact Hg

/-! ## The region's proof data -/

def dat (c : Dev nD) : Dat τ (Elt F) Unit ℕ UU ℕ cfg0 c where
  A w := V m c (Pipeline.arrRef spec0 w)
  after w _ := match w with | ⟨0, _⟩ => (inp m).gm c
  Φ t := if t.val = 0
    then iprop(Pipeline.scopedRest spec0 c ∗ (∃ r, prngReg c r) ∗ StableHlo.held (c : Thread nD τ) bodyRefs (W₁ m c) ∗ Xk m c)
    else iprop(Pipeline.scopedRest spec0 c ∗ (∃ r, prngReg c r) ∗ StableHlo.held (c : Thread nD τ) bodyRefs (W₂ m c)
      ∗ Pipeline.ownSems0 osem c ∗ semVal (barC c) 0)
  q _ := fullShare
  owed t := if t.val = 0 then O₀ c else 0

theorem dat_A (c : Dev nD) (w : Fin cfg0.W) : (dat m c).A w = V m c (Pipeline.arrRef spec0 w) := by dsimp only [dat]
theorem dat_first (c : Dev nD) : (dat m c).owed t0_0.castSucc = O₀ c := by
  show (if (t0_0.castSucc : Fin (cfg0.N + 1)).val = 0 then O₀ c else 0) = O₀ c
  exact if_pos rfl
theorem dat_last (c : Dev nD) : (dat m c).owed t0_0.succ = 0 := by
  show (if (t0_0.succ : Fin (cfg0.N + 1)).val = 0 then O₀ c else 0) = 0
  exact if_neg (Nat.succ_ne_zero _)

theorem dat_before (c : Dev nD) (d : (cfg0.win 0).block.Idx → Elt F (cfg0.win 0).elt) : (dat m c).before 0 t0_0 d = (inp m).gm c := by
  unfold Dat.before
  rw [if_pos (by decide)]
  unfold Dat.fetched Dat.blockOf
  rw [dat_A]
  rfl

theorem owes_in {c : Dev nD} (t : Fin (cfg0.N + 1)) (O : Tal) (h : (dat m c).owed t = O) : (ow c O : sProp 𝕄) ⊢ (dat m c).owesAt () t := by
  unfold ow Dat.owesAt Pipeline.owesWithin Dat.bound
  rw [h, show (dat m c).recorded t = Set.univ from rfl]
  iintro ⟨%W, HO⟩
  iexists W
  isplitr; · ipureintro; exact fun _ _ => Or.inl trivial
  iexact HO
theorem owes_out {c : Dev nD} (t : Fin (cfg0.N + 1)) (O : Tal) (h : (dat m c).owed t = O) : ((dat m c).owesAt () t : sProp 𝕄) ⊢ ow c O := by
  unfold ow Dat.owesAt Pipeline.owesWithin
  rw [h]
  iintro ⟨%W, -, HO⟩
  iexists W; iexact HO

set_option maxRecDepth 65536 in
theorem body (c : Dev nD) : BodyObligation (dat m c) defs₀ 𝒱₀ () Set.univ := fun t => by
  obtain rfl := fin_N0 t
  rw [bigSep_W0, bigSep_W0]
  show iprop((Pipeline.scopedRest spec0 c ∗ (∃ r, prngReg c r) ∗ StableHlo.held (c : Thread nD τ) bodyRefs (W₁ m c) ∗ Xk m c)
      ∗ (dat m c).owesAt () t0_0.castSucc ∗ (∃ d, owns (c : Thread nD τ) gamM fullShare ((dat m c).before 0 t0_0 d)))
    ⊢ WP c (bodyAt0 t0_0) fun _ => iprop((Pipeline.scopedRest spec0 c ∗ (∃ r, prngReg c r) ∗ StableHlo.held (c : Thread nD τ) bodyRefs (W₂ m c)
        ∗ Pipeline.ownSems0 osem c ∗ semVal (barC c) 0) ∗ (dat m c).owesAt () t0_0.succ ∗ owns (c : Thread nD τ) gamM fullShare ((inp m).gm c))
  rw [body_eq]
  simp only [dat_before]
  iintro ⟨HΦ, HO, ⟨%d, Hg⟩⟩
  ihave HO := (owes_out m t0_0.castSucc (O₀ c) (dat_first m c)) $$ HO
  iapply (wp_wand frame (wpE (defs₀ (F := F)) 𝒱₀ (c : Thread nD τ) none) Set.univ) $$ [HΦ HO Hg]
  · iapply (run_body m c)
    isplitl [HΦ]; · iexact HΦ
    isplitl [HO]; · iexact HO
    iexact Hg
  iintro %a ⟨HΦ, HO, Hg⟩
  isplitl [HΦ]; · iexact HΦ
  isplitl [HO]; · iapply (owes_in m t0_0.succ 0 (dat_last m c)); iexact HO
  iexact Hg

end Cert.Proof.Rms
-- ==== Proof.Main.lean ====
/-
  The kernel's run from launch to end, over any floats: every device's result, its arguments as they were, every
  semaphore at rest.
-/
module

public import proofs.«01_k».proof.Proof.Launch

@[expose] public section

noncomputable section

namespace Cert.Proof.Rms

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem kit : Pipeline.PLaunchFacts (nD := nD) (τ := τ) (pcfgs (F := F)) 0 := launch0.toP

theorem owed_first (c : Dev nD) : (pdats m 0 c).owed 0 = 0 + O₀ c := by
  rw [zero_add]
  show (if ((0 : Fin (cfg0.N + 1)).val = 0) then O₀ c else 0) = O₀ c
  exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem owed_above (c : Dev nD) (t : Fin ((Pipeline.pin (pcfgs (F := F)) adm 0).N + 1)) : Above 0 ((pdats m 0 c).owed t) := by
  show Above 0 (if t.val = 0 then O₀ c else 0)
  split
  · exact above_O₀ c
  · exact above_zero 0

/-- What stays with a device of the protocol after the kernel. -/
abbrev Yk (c : Dev nD) : sProp 𝕄 := semVal (barC c) 0

theorem opening (c : Dev nD) : iprop(Tk m c ∗ Pipeline.ownSems0 osem c ∗ levAts L lv) ⊢ (|={Set.univ}=> Xk m c : sProp 𝕄) := by
  rw [ownSems_eq]
  unfold Tk Xk
  iintro ⟨⟨⟨%K, #HI⟩, Hnb, HbP, Hop, Htok, Hcrd⟩, ⟨Hv, Hl⟩, #Hlev⟩
  imod (open_all (inp m) K c) $$ [Hop Hv] with ⟨HcP, HcR⟩
  · isplitr; · iexact HI
    isplitl [Hop]; · iexact Hop
    iexact Hv
  imodintro
  iexists K
  isplitr; · iexact HI
  isplitr; · iexact Hlev
  isplitl [Hnb]; · iexact Hnb
  isplitl [HbP]; · iexact HbP
  isplitl [HcP]; · iexact HcP
  isplitl [HcR]; · iexact HcR
  isplitl [Htok]; · iexact Htok
  isplitl [Hcrd]; · iexact Hcrd
  iexact Hl

theorem entering (c : Dev nD) : iprop(Pipeline.scopedRest (Pipeline.pin (pcfgs (F := F)) adm 0).spec c ∗ (∃ r, prngReg c r)
      ∗ StableHlo.held (c.tc : Thread nD τ) bodyRefs (W₁ m c) ∗ Xk m c) ⊢ (pdats m 0 c).Φ 0 := by
  rw [show (pdats m 0 c).Φ 0 = iprop(Pipeline.scopedRest spec0 c ∗ (∃ r, prngReg c r) ∗ StableHlo.held (c : Thread nD τ) bodyRefs (W₁ m c) ∗ Xk m c) from rfl]
theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) bodyRefs (W₂ m c) ∗ Pipeline.ownSems0 osem c ∗ Yk c) := by
  rw [show (pdats m 0 c).Φ (Fin.last _) = iprop(Pipeline.scopedRest spec0 c ∗ (∃ r, prngReg c r) ∗ StableHlo.held (c : Thread nD τ) bodyRefs (W₂ m c)
      ∗ Pipeline.ownSems0 osem c ∗ semVal (barC c) 0) from rfl]

theorem stage_cell : ∀ (w : Fin 1) (s : Fin (spec0 w).nbuf), lvD ((spec0 w).sem s).val = 0 := by decide +kernel

local notation "ℝ𝕊" => Pipeline.RegionSeg (pcfgs (F := F)) adm (pdats m) () defs₀ 𝒱₀ L lv

theorem arr_ne : ∀ w : Fin 1, tcRef (Pipeline.arrRef spec0 w) ≠ tcRef main_v2 := by decide
theorem arr_in (c : Dev nD) (w : Fin cfg0.W) (t : ℕ) : (dat m c).arrAt w t = W₁ m c (tcRef (Pipeline.arrRef spec0 w)) := by
  match w with
  | 0 => rw [Dat.arrAt_in _ 0 rfl, dat_A]

set_option backward.isDefEq.respectTransparency.types false in
def reg : ℝ𝕊 0 :=
  Pipeline.RegionSeg.ofTalk (pcfgs (F := F)) adm (pdats m) () defs₀ 𝒱₀ L lv 0 osem osem_facts
    bodyRefs restRefs body_sub kit rfl (fun c => (body m c).loose)
    (fun _ => 0) O₀ (owed_first m) (owed_last m) (fun _ => rfl) (fun _ w => match w with | 0 => rfl)
    (W₁ m) (W₂ m) (fun c b hb => W₂_ne m c b fun e => (Finset.mem_sdiff.mp hb).2 (e ▸ by decide))
    (Tk m) Yk (Xk m) Yk (opening m) (entering m) (leaving m)
    (fun c => by iintro H; imodintro; iexact H)
    (fun _ => 0)
    ⟨fun c w s => by rw [L_tc]; exact Finset.mem_singleton_self _, fun c w s => (stage_cell w s).le, fun c t g i h => owed_above m c t g i h⟩
    (fun _ => iprop(emp))
    (fun c w => arr_in m c w 0)
    (fun c w => (arr_in m c w _).trans (W₂_ne m c _ (arr_ne w)).symm)

/-! ## What goes through the host operations -/

/-- Beside the buffers. -/
def R (c : Dev nD) : sProp 𝕄 := iprop(Tk m c ∗ (∃ r, prngReg c r) ∗ ow c (O₀ c))

theorem reg_pre (c : Dev nD) : iprop(StableHlo.held (c : Thread nD τ) (Pipeline.ucRefs τ sig) (W₁ m c) ∗ R m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) restRefs (W₁ m c) ∗ emp) ∗ Tk m c ∗ ∃ Wd, owes (c : Thread nD τ) (0 + O₀ c) Wd)
  rw [held_arr, held_all, zero_add]
  unfold R ow
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

abbrev Tₙ (c : Dev nD) : sProp 𝕄 := iprop(StableHlo.held (c : Thread nD τ) restRefs (W₂ m c) ∗ semVal (barC c) 0)

theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) restRefs (W₂ m c) ∗ emp) ∗ Yk c ∗ ∃ Wd, owes (c : Thread nD τ) (0 : CellTallies nD τ sig Unit) Wd) ⊢ _
  iintro ⟨-, -, ⟨Hh, -⟩, Hb, HO⟩
  isplitr [HO]
  · isplitl [Hh]; · iexact Hh
    iexact Hb
  iexact HO

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (W₀ m) (R m)

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

/-! ## The launch -/

theorem stages_inj : Function.Injective (Pipeline.cellOf (nD := nD) (τ := τ) (Pipeline.pin (pcfgs (F := F)) adm)) :=
  kit.cellOf_inj adm

variable (F) in
def u₀ : UU :=
  (initOf (Pipeline.cells (Pipeline.pin (pcfgs (F := F)) adm) stages_inj) (Pipeline.launchToks (Pipeline.pin (pcfgs (F := F)) adm) stages_inj),
    (launchOf barCells dmaCells dealToks, 1))

/-- The protocol's element, kept with one device until it is dealt. -/
abbrev seed : sProp 𝕄 := BI.own (ER (launchOf barCells dmaCells dealToks))
def G (c : Dev nD) : sProp 𝕄 := if c = 0 then seed else iprop(emp)
theorem G_eq : bigSep Finset.univ (G (F := F)) = seed := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What every device may look up. -/
def Recs (κ : GSem nD τ sig → ℕ) : sProp 𝕄 := iprop(invs (inp m) κ ∗ bigSep barCells fun g => reached ER g 0)
instance Recs_persistent (κ : GSem nD τ sig → ℕ) : BI.Persistent (Recs m κ) := by unfold Recs; infer_instance

/-- What is one device's of the launch, but for the protocol. -/
def Own (c : Dev nD) : sProp 𝕄 :=
  iprop(StableHlo.held (c : Thread nD τ) (Pipeline.ucRefs τ sig) (W₀ m c) ∗ Crd c ∗ (∃ r, prngReg c r) ∗ ow c (O₀ c))

theorem start (κ : GSem nD τ sig → ℕ) (c : Dev nD) :
    iprop(Recs m κ ∗ (atPos ER (barC c) 0 ∅ 0 ∗ cells (fun s => openTok ER (dmaC c s)) ∗ Tok c ∗ Own m c))
      ⊢ iprop(StableHlo.held (c : Thread nD τ) (Pipeline.ucRefs τ sig) (W₀ m c) ∗ R m c) := by
  unfold Recs Own R Tk Nbs
  iintro ⟨⟨#HI, #HR⟩, HbP, Hop, Htok, Hh, Hcrd, Hp, HO⟩
  isplitl [Hh]; · iexact Hh
  isplitl [HbP Hop Htok Hcrd]
  · isplitr; · iexists κ; iexact HI
    isplitr
    · isplitr; · iapply (reached_bar (F := F) (nbP c)); iexact HR
      isplitr; · iapply (reached_bar (F := F) (nbL c)); iexact HR
      iapply (reached_bar (F := F) (nbR c)); iexact HR
    isplitl [HbP]; · iexact HbP
    isplitl [Hop]; · iexact Hop
    isplitl [Htok]; · iexact Htok
    iexact Hcrd
  isplitl [Hp]; · iexact Hp
  iexact HO

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(Own m c ∗ (semVal (barC c) 0 ∗ G c)) : sProp 𝕄) := by
  rw [show unscopedBufs c (fun b => m ((c : Thread nD τ).loc b)) = StableHlo.held (c : Thread nD τ) (Pipeline.ucRefs τ sig) (W₀ m c) from
    Pipeline.unscopedBufs_held c (W₀ m c), unscopedSems_eq]
  unfold Own ow
  iintro ⟨Hh, Hv, HO, Hcr, Hp, HG⟩
  isplitl [Hh HO Hcr Hp]
  · isplitl [Hh]; · iexact Hh
    isplitl [Hcr]; · iapply (credits (F := F) c); iexact Hcr
    isplitl [Hp]; · iexists (ρ c); iexact Hp
    iexists ∅; iexact HO
  isplitl [Hv]; · iexact Hv
  iexact HG

theorem together {Φ Ψ : Dev nD → sProp 𝕄} :
    iprop(bigSep Finset.univ Φ ∗ bigSep Finset.univ Ψ) ⊢ bigSep Finset.univ (fun c => iprop(Φ c ∗ Ψ c)) :=
  Entails.of_eq (bigSep_sep _ _ _).symm
theorem apart {Φ Ψ : Dev nD → sProp 𝕄} :
    bigSep Finset.univ (fun c => iprop(Φ c ∗ Ψ c)) ⊢ iprop(bigSep Finset.univ Φ ∗ bigSep Finset.univ Ψ) :=
  Entails.of_eq (bigSep_sep _ _ _)

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (W₀ m c) ∗ R m c)) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Own m c ∗ (semVal (barC c) 0 ∗ G c)) : sProp 𝕄) from bigSep_mono fun c _ => sorted m ρ c) $$ H
  ihave H := apart $$ H
  icases H with ⟨HB, H⟩
  ihave H := apart $$ H
  icases H with ⟨Hv, HG⟩
  ihave HG := (Entails.of_eq (G_eq (F := F))) $$ HG
  imod (Rounds.fund_launch ER (Rd (inp m)) cells_apart (fun g _ h => h) dealToks) $$ [Hv HG] with ⟨%κ, -, Hinv, #Hr, Hat, Hopen, Htok⟩
  · isplitl [Hv]
    · iapply hv $$ Hv
    iexact HG
  ihave #HI := (invs_intro (inp m) κ) $$ Hinv
  imodintro
  iapply (bigSep_with_persistent (R := Recs m κ)
    (Φ := fun c => iprop(atPos ER (barC c) 0 ∅ 0 ∗ cells (fun s => openTok ER (dmaC c s)) ∗ Tok c ∗ Own m c)) fun c _ => start m κ c)
  isplitr
  · unfold Recs
    isplitr; · iexact HI
    iexact Hr
  iapply together; isplitl [Hat]; · iapply hat $$ Hat
  iapply together; isplitl [Hopen]; · iapply (Entails.of_eq (open_eq (F := F))) $$ Hopen
  iapply together
  isplitl [Htok]
  · iapply (toks_around (F := F))
    iapply (Entails.of_eq (toks_eq (F := F))) $$ Htok
  iexact HB

/-! ## The run -/

set_option backward.isDefEq.respectTransparency.types false in
theorem run_main : θ_run defs (onTc (τ := τ) (main (F := F))) ⟨m, fun _ => 0, ρ⟩
    (fun r => (∀ c : Dev nD, r.2.mem ((c : Thread nD τ).loc main_v2) = resV c (inp m)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () stages_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ F)
    (hu₀ := by
      unfold u₀
      iintro Hu
      ihave H := (ownU_pair _ _) $$ Hu
      icases H with ⟨HP, HX⟩
      imodintro
      isplitl [HP]; · iexact HP
      rw [G_eq (F := F)]
      ihave H := (own_pair_emb _ _ _) $$ HX
      icases H with ⟨HX, -⟩
      iexact HX)
    (T₀ := fun c => iprop(StableHlo.held (c : Thread nD τ) (Pipeline.ucRefs τ sig) (W₀ m c) ∗ R m c)) (Tₙ := Tₙ m)
    (hch := ⟨fun c => .rfl, fun c => reg_pre m c, fun c => reg_post m c⟩)
    (hinit := deal m ρ)
    (QY := fun c s => (s.mem ((c : Thread nD τ).loc main_arg0) = W₂ m c (tcRef main_arg0) ∧ s.mem ((c : Thread nD τ).loc main_arg1) = W₂ m c (tcRef main_arg1)
        ∧ s.mem ((c : Thread nD τ).loc main_arg2) = W₂ m c (tcRef main_arg2) ∧ s.mem ((c : Thread nD τ).loc main_v2) = W₂ m c (tcRef main_v2))
      ∧ s.sem (barC c) = 0)
    (hfin := fun c s' => by
      dsimp only [Tₙ]; rw [held_rest]
      iintro ⟨⟨⟨H0, H1, H2, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [W₂_arg0] at h0; rw [W₂_arg1] at h1; rw [W₂_arg2] at h2; rw [W₂_v2] at h3
        exact ⟨h3, h0, h1, h2⟩,
      sem_eq_zero hs fun c sm hsm => by
        obtain rfl := unscoped_bar sm hsm
        exact (h c).2⟩)

end Cert.Proof.Rms
-- ==== Proof.Frames.lean ====
/-
  The three frames: what the runs leave of the arguments and of the semaphores.

  The kernel as printed and its idealized printing run the same body, so the run over any floats is the run of both.
-/
module

public import proofs.«01_k».proof.Defs
public import proofs.«01_k».proof.Proof.Main
public import proofs.«01_k».proof.Proof.Gen.Kernel.Points
public import proofs.«01_k».proof.Proof.Gen.ReferenceIdeal.Run
public import Idealize.ShloMosaic.Lib.Quiescent

@[expose] public section

noncomputable section

namespace Cert.Proof.Rms

open Idealize.ShloMosaic Idealize.ShloMosaic.TcCoe Idealize.SL.Sem

theorem frame_ideal : @Cert.quiescent_KernelIdeal Cert.KernelIdeal.Gen.facts := fun m g _ =>
  (θ_run _ _ _).mono (fun _ h => ⟨fun c => (h.1 c).2, h.2⟩) (run_main (F := Ideal) m g)

theorem frame_reference : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run (F := Ideal) m g)

/-! ## The kernel as printed -/

theorem mains_eq : Cert.Kernel.main (F := Bits) = Cert.KernelIdeal.main (F := Bits) := rfl

set_option maxRecDepth 65536 in
theorem body_eq_kernel (t : Fin Cert.Kernel.cfg0.N) : Cert.Kernel.Gen.bodyAt0 (F := Bits) t = prog := by
  chain_rfl

theorem one_slot (s t : (w : Fin 1) → Fin (Cert.KernelIdeal.win0 w).nbuf) : s = t := by
  funext w
  match w with
  | 0 => exact Subsingleton.elim (α := Fin 1) _ _

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    obtain rfl := one_slot s (Cert.KernelIdeal.cfg0.slots t)
    exact (body_eq_kernel t).trans (body_eq t).symm

theorem defs_eq : Cert.Kernel.defs (F := Bits) = Cert.KernelIdeal.defs (F := Bits) := by
  unfold Cert.Kernel.defs Cert.KernelIdeal.defs
  exact congrArg (Pipeline.defs Cert.KernelIdeal.pcfgs) bodies_eq

theorem frame_kernel : @Cert.quiescent_Kernel Cert.Kernel.Gen.facts := fun m g _ => by
  rw [defs_eq, mains_eq]
  exact (θ_run Cert.KernelIdeal.defs (onTc (τ := Cert.KernelIdeal.τ) (Cert.KernelIdeal.main (F := Bits))) ⟨m, fun _ => 0, g⟩).mono
    (fun _ h => ⟨fun c => (h.1 c).2, h.2⟩) (run_main (F := Bits) m g)

end Cert.Proof.Rms
-- ==== Proof.Rows.lean ====
/-
  One row over the extended reals: multiplying by the reciprocal square root of the mean square is dividing by the
  square root, and the two programs' arithmetic entry by entry.
-/
module

public import proofs.«01_k».proof.Proof.Sched
public import proofs.«01_k».proof.Proof.Gen.ReferenceIdeal.Run
public import Idealize.ShloMosaic.Lib.Pointwise

@[expose] public section

noncomputable section

namespace Cert.Proof.Rms

open Idealize.ShloMosaic

/-! ## The scale -/

theorem width_eq : Ideal.ofBits .f32 0x45000000#32 = ((2048 : ℝ) : EReal) := by
  simp [Ideal.ofBits, Ideal.ieee, -EReal.coe_mul]
  norm_num
theorem eps_pos : 0 < Ideal.ofBits .f32 0x358637BD#32 := by
  simp [Ideal.ofBits, Ideal.ieee, -EReal.coe_mul]

theorem square_nonneg (y : EReal) : 0 ≤ y * y := by
  rcases le_total 0 y with h | h
  · exact mul_nonneg h h
  · exact EReal.mul_nonneg_iff.mpr (.inr ⟨h, h⟩)

/-- The mean of a row's squares, and the small number above it. -/
def meanSq (y : Fin 2048 → EReal) : EReal := Ideal.div (∑ k, y k * y k) (Ideal.ofBits .f32 0x45000000#32) + Ideal.ofBits .f32 0x358637BD#32

theorem meanSq_pos (y : Fin 2048 → EReal) : 0 < meanSq y := by
  have h : 0 ≤ ∑ k, y k * y k := Finset.sum_nonneg fun k _ => square_nonneg (y k)
  have h2 : (0 : EReal) < ((2048 : ℝ) : EReal) := by exact_mod_cast (by norm_num : (0 : ℝ) < 2048)
  unfold meanSq Ideal.div
  rw [width_eq, if_neg h2.ne']
  exact lt_of_lt_of_le eps_pos (le_add_of_nonneg_left (mul_nonneg h (EReal.inv_nonneg_of_nonneg h2.le)))

/-- Over a positive number, real or infinite, the reciprocal root's product is the root's quotient. -/
theorem mul_rsqrt (x v : EReal) (h : 0 < v) : x * Ideal.rsqrt v = Ideal.div x (Ideal.sqrt v) := by
  induction v with
  | bot => exact absurd h (by simp)
  | top => simp [Ideal.div]
  | coe r =>
    have hr : 0 < r := by exact_mod_cast h
    have hs : (Real.sqrt r : EReal) ≠ 0 := by exact_mod_cast (Real.sqrt_pos.mpr hr).ne'
    rw [Ideal.rsqrt_coe, Ideal.sqrt_coe, if_neg hr.not_gt, if_neg hr.ne', if_neg hr.not_gt, Ideal.div, if_neg hs, EReal.coe_inv]

/-- Entry `q` of a row normalised, by the scale `g`. -/
def normed (y : Fin 2048 → EReal) (g : EReal) (q : Fin 2048) : EReal := Ideal.div (y q) (Ideal.sqrt (meanSq y)) * g

/-! ## The kernel -/

section Kernel
open Cert.KernelIdeal Cert.KernelIdeal.Gen

theorem normF_at (a : FVec Ideal S512x2048 .bf16) (r : FVec Ideal S512x2048 .f32) (g : FVec Ideal S1x2048 .f32) (p : Fin 512) (q : Fin 2048) :
    normF (F := Ideal) a r g (ix2 p q) = normed (fun k => a (ix2 p k) + r (ix2 p k)) (g (ix2 0 q)) q := by
  unfold normed
  rw [← mul_rsqrt _ _ (meanSq_pos _)]
  unfold meanSq
  pointwise [normF, k0_pay6]

/-- The device's own chunk, that no cast of the sum precedes. -/
theorem normOwn (a : FVec Ideal S512x2048 .f32) (b : FVec Ideal S512x2048 .bf16) (r : FVec Ideal S512x2048 .f32) (g : FVec Ideal S1x2048 .f32) :
    k0_pay5 (F := Ideal) (k0_pay4 (F := Ideal) (k0_pay2 (F := Ideal) a b) r) g = normF (F := Ideal) (k0_pay3 (F := Ideal) a b) r g := by
  funext i
  rw [eq_ix2 i]
  pointwise [normF, k0_pay6, k0_pay5, k0_pay4, k0_pay3, k0_pay2]

theorem sum_at (a b : FVec Ideal S512x2048 .f32) (p : Fin 512) (q : Fin 2048) :
    k0_pay3 (F := Ideal) a (k0_pay1 (F := Ideal) b) (ix2 p q) = a (ix2 p q) + b (ix2 p q) := by
  pointwise [k0_pay3, k0_pay2, k0_pay1]

end Kernel

/-! ## The reference -/

section Reference
open Cert.ReferenceIdeal Cert.ReferenceIdeal.Gen

variable (x : FVec Ideal S2x8192x2048 .f32) (r : FVec Ideal S8192x2048 .f32) (g : FVec Ideal S2048 .f32)

/-- What is normalised. -/
def total : FVec Ideal S8192x2048 .f32 := addf (Host.reduceAdd x (constant S_ .f32 0x00000000#32) reducesTo_S2x8192x2048_S8192x2048_d0 h_S_) r
def wanted : FVec Ideal S8192x2048 .f32 :=
  mulf (Host.divf (total x r) (broadcastInDim S8192x2048 ![0, 1] bcast_S8192x1_S8192x2048_0_1 (Host.sqrt (addf
    (Host.divf (broadcastInDim S8192x1 ![0] bcast_S8192_S8192x1_0
        (Host.reduceAdd (mulf (total x r) (total x r)) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem total_at (p : Fin 8192) (q : Fin 2048) : total x r (ix2 p q) = (x (ix3 0 p q) + x (ix3 1 p q)) + r (ix2 p q) := by
  pointwise [total]
  rw [Fin.sum_univ_two]

theorem wanted_at (p : Fin 8192) (q : Fin 2048) : wanted x r g (ix2 p q) = normed (fun k => total x r (ix2 p k)) (g (ix1 q)) q := by
  unfold normed meanSq
  pointwise [wanted]

end Reference

end Cert.Proof.Rms

end
-- ==== Proof.Value.lean ====
/-
  The kernel's result over the extended reals is the reference's.
-/
module

public import proofs.«01_k».proof.Defs
public import proofs.«01_k».proof.Proof.Rows
public import proofs.«01_k».proof.Proof.Main
public import Idealize.ShloMosaic.Lib.ValueLayout
public import Idealize.ShloMosaic.Lib.Claim

@[expose] public section

noncomputable section

namespace Cert.Proof.Rms

open Idealize.ShloMosaic Idealize.ShloMosaic.TcCoe Idealize.SL.Sem
open Cert.KernelIdeal Cert.KernelIdeal.Gen

/-! ## What a device reads of the whole arrays -/

variable (m : (ℓ : Loc nD τ sig) → Buf (Elt Ideal) ℓ)

/-- Row `p` of chunk `j`. -/
def rowOf (j : Fin 16) (p : Fin 512) : Fin 8192 := ⟨512 * j.val + p.val, by omega⟩

/-- The plane of a device. -/
def plane (c : Dev nD) : Fin 2 := ⟨c.val / 16, by have h : c.val < 32 := c.isLt; omega⟩
theorem plane_own : ∀ c j, plane (own c j) = plane c := by decide +kernel
theorem plane_nbP : ∀ c, plane (nbP c) = 1 - plane c := by decide +kernel

theorem block_at (X : FVec Ideal ⟨3, ![2, 8192, 2048]⟩ .f32) (c : Dev nD) (s : Fin 8192) (q : Fin 2048) :
    Layout.blockN ⟨3, ![1, 8192, 2048]⟩ ⟨3, ![2, 8192, 2048]⟩ (Layout.meshBlock [2, 4, 4] ![[0], [], []] c) X (by decide) (ix3 (0 : Fin 1) s q)
      = X (ix3 (plane c) s q) := by
  rw [Layout.blockN_apply]
  congr 1
  have h : ∀ c : Dev nD, Layout.meshLin [2, 4, 4] c.val [0] = (plane c).val := by decide +kernel
  funext a
  apply Fin.ext
  rw [Layout.TilesN.idx_val]
  match a with
  | 0 => exact (Nat.add_zero _).trans ((Nat.mul_one _).trans (h c))
  | 1 => exact (congrArg (· + s.val) (Nat.zero_mul _)).trans (Nat.zero_add _)
  | 2 => exact (congrArg (· + q.val) (Nat.zero_mul _)).trans (Nat.zero_add _)

theorem pa_at (c : Dev nD) (p : Fin 512) (q : Fin 2048) :
    (inp m).pa c (ix2 p q) = m ((c : Thread nD τ).loc main_arg0) (ix3 (0 : Fin 1) (rowOf (ch (pos c)) p) q) := by
  show m ((c : Thread nD τ).loc main_arg0) ((Rect.unit (s := S1x8192x2048) (k0_off1 c) S1x512x2048.size (k0_off1_inb c)).emb
    (Shape.reshapeEquiv squeezes_S1x512x2048_S512x2048.numel_eq (ix2 p q))) = _
  congr 1
  rw [show Shape.reshapeEquiv squeezes_S1x512x2048_S512x2048.numel_eq (ix2 p q) = ix3 (0 : Fin 1) p q from
    ValueIdx.reshapeEquiv_ix2_1ab (a := 512) (b := 2048) _ p q]
  funext a
  apply Fin.ext
  rw [Rect.emb_apply, Rect.stride_unit, Nat.one_mul, Rect.off_unit]
  refine (congrArg (· + (ix3 (0 : Fin 1) p q a).val) (congrFun (off1_eq c) a)).trans ?_
  match a with
  | 0 => rfl
  | 1 => rfl
  | 2 => exact Nat.zero_add _

theorem gm_at (c : Dev nD) (q : Fin 2048) : (inp m).gm c (ix2 (0 : Fin 1) q) = m ((c : Thread nD τ).loc main_arg2) (ix1 q) := by
  show ((cfg0.win 0).blk t0_0).view.read (Elt Ideal) (V m c main_v1) (ix2 (0 : Fin 1) q) = _
  entry_read
  rw [show ((cfg0.win 0).blk t0_0).view.read (Elt Ideal) (shapeCast main_v1.ty.shape (m (c, Proc.tc.devRef main_arg2)) shapeCasts_S2048_S1x2048) (ix2 (0 : Fin 1) q)
    = shapeCast S1x2048 (m ((c : Thread nD τ).loc main_arg2)) shapeCasts_S2048_S1x2048 (ix2 (0 : Fin 1) q) from by
      show shapeCast _ _ _ _ = _
      congr 1
      funext a
      apply Fin.ext
      match a with
      | 0 => rfl
      | 1 => exact (Nat.zero_add _).trans (Nat.one_mul _)]
  exact ValueIdx.shapeCast_a_1a_apply (a := 2048) _ _ 0 q

/-! ## The two programs' results -/

variable (x : FVec Ideal ⟨3, ![2, 8192, 2048]⟩ .f32) (r : FVec Ideal ⟨2, ![8192, 2048]⟩ .f32) (g : FVec Ideal ⟨1, ![2048]⟩ .f32)

/-- The devices' arguments are their blocks of the whole arrays. -/
def Placed : Prop := ∀ c : Dev nD,
  m ((c : Thread nD τ).loc main_arg0) = Layout.blockN ⟨3, ![1, 8192, 2048]⟩ ⟨3, ![2, 8192, 2048]⟩ (Layout.meshBlock [2, 4, 4] ![[0], [], []] c) x
  ∧ m ((c : Thread nD τ).loc main_arg1) = r ∧ m ((c : Thread nD τ).loc main_arg2) = g

variable {m x r g}

/-- The chunk that a device adds up: both planes', whichever plane it is in. -/
theorem comm_at (h : Placed m x r g) (c : Dev nD) (p : Fin 512) (q : Fin 2048) :
    commV (inp m) c (ix2 p q) = x (ix3 0 (rowOf (ch (pos c)) p) q) + x (ix3 1 (rowOf (ch (pos c)) p) q) := by
  have hp : ∀ c, ch (pos (nbP c)) = ch (pos c) := by decide +kernel
  unfold commV
  rw [sum_at, pa_at, pa_at, (h c).1, (h (nbP c)).1, block_at, block_at, hp, plane_nbP]
  generalize plane c = w
  match w with
  | 0 => rfl
  | 1 => exact add_comm _ _

theorem chunk_norm (I : Inp Ideal) (c : Dev nD) (j : Fin 16) : oV I c j = normF (cV I c j) (rV I c j) (I.gm c) := by
  unfold oV
  split
  next h =>
    rw [normOwn, h, cV_own]
    rfl
  next => rfl

/-- The place of a row in its chunk. -/
def inChunk (s : Fin 8192) : Fin 512 := ⟨s.val % 512, Nat.mod_lt _ (by decide)⟩
theorem row_in (s : Fin 8192) (q : Fin 2048) : rowIn (ix2 s q) = ix2 (inChunk s) q := by
  funext a
  match a with
  | 0 => rfl
  | 1 => rfl

theorem result_eq (h : Placed m x r g) (c : Dev nD) : resV c (inp m) = wanted x r g := by
  funext i
  obtain ⟨s, q, rfl⟩ : ∃ (s : Fin 8192) (q : Fin 2048), i = ix2 s q := ⟨_, _, eq_ix2 i⟩
  have hs : rowOf (rowCh (ix2 s q)) (inChunk s) = s := Fin.ext (Nat.div_add_mod s.val 512)
  have hi (k : Fin 2048) : (chO (rowCh (ix2 s q))).rect.emb (ix2 (inChunk s) k) = ix2 s k := by
    rw [← row_in s k]
    exact emb_rowIn (ix2 s k)
  show oV (inp m) c (rowCh (ix2 s q)) (rowIn (ix2 s q)) = _
  rw [row_in, chunk_norm, wanted_at, normF_at, gm_at, (h c).2.2]
  refine congrArg (fun y => normed y (g (ix1 q)) q) (funext fun k => ?_)
  rw [total_at]
  unfold cV rV
  rw [comm_at h, pos_own, hs, hi]
  show _ + m ((c : Thread nD τ).loc main_arg1) (ix2 s k) = _
  rw [(h c).2.1]

theorem value : @Cert.algebraic_KernelIdeal_ReferenceIdeal Cert.KernelIdeal.Gen.facts Cert.ReferenceIdeal.Gen.facts := by
  intro m ρ m' ρ' _ h
  have hR := Cert.ReferenceIdeal.Value.run (F := Ideal) m' ρ'
  refine ⟨wanted _ _ _, (θ_run defs _ _).mono (fun _ hK c => ?_) (run_main (F := Ideal) m ρ), (θ_run Cert.ReferenceIdeal.defs _ _).mono (fun _ hr => hr 0) hR⟩
  obtain ⟨e, h0, h1, h2⟩ := hK.1 c
  exact ⟨e.trans (result_eq h c), h0, h1, h2⟩

end Cert.Proof.Rms

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Rms.frame_kernel, Rms.frame_ideal, Rms.frame_reference, trivial, Rms.value⟩

end Cert.Proof

end
